-- ==== Defs.lean ====
def Pre_Kernel [hPre_groups_cover : Cert.Pre_groups_cover.Facts] (m : (ℓ : Loc Cert.Kernel.nD Cert.Kernel.τ Cert.Kernel.sig) → Buf (Elt Bits) ℓ) : Prop :=
  ∀ c : Dev Cert.Kernel.nD,
    (Cert.Pre_groups_cover.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_cover : Cert.Pre_groups_cover.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_groups_cover_bf16_tokens [hPre_groups_cover_bf16_tokens : Cert.Pre_groups_cover_bf16_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_groups_cover_bf16_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_cover_bf16_tokens [hPre_groups_cover_bf16_tokens : Cert.Pre_groups_cover_bf16_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_cover_bf16_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_cover : Cert.Pre_groups_cover.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_cover : Cert.Pre_groups_cover.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_cover_bf16_tokens [hKernelIdeal : Cert.KernelIdeal.Facts] [hPre_groups_cover_bf16_tokens : Cert.Pre_groups_cover_bf16_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_cover_bf16_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_cover_bf16_tokens [hReferenceIdeal : Cert.ReferenceIdeal.Facts] [hPre_groups_cover_bf16_tokens : Cert.Pre_groups_cover_bf16_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_cover_bf16_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_cover_bf16_tokens [hKernelIdeal : Cert.KernelIdeal.Facts] [hReferenceIdeal : Cert.ReferenceIdeal.Facts] [hPre_groups_cover_bf16_tokens : Cert.Pre_groups_cover_bf16_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_cover_bf16_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_cover : Cert.Pre_groups_cover.Facts) (hPre_groups_cover_bf16_tokens : Cert.Pre_groups_cover_bf16_tokens.Facts),
    quiescent_Kernel (hKernel := hKernel) (hPre_groups_cover := hPre_groups_cover)
    ∧ quiescent_KernelIdeal (hKernelIdeal := hKernelIdeal) (hPre_groups_cover := hPre_groups_cover)
    ∧ quiescent_KernelIdeal_pre_groups_cover_bf16_tokens (hKernelIdeal := hKernelIdeal) (hPre_groups_cover_bf16_tokens := hPre_groups_cover_bf16_tokens)
    ∧ quiescent_ReferenceIdeal (hReferenceIdeal := hReferenceIdeal)
    ∧ quiescent_ReferenceIdeal_pre_groups_cover_bf16_tokens (hReferenceIdeal := hReferenceIdeal) (hPre_groups_cover_bf16_tokens := hPre_groups_cover_bf16_tokens)
    ∧ preserves_Kernel_KernelIdeal
    ∧ algebraic_KernelIdeal_ReferenceIdeal_pre_groups_cover_bf16_tokens (hKernelIdeal := hKernelIdeal) (hReferenceIdeal := hReferenceIdeal) (hPre_groups_cover_bf16_tokens := hPre_groups_cover_bf16_tokens)
-- ==== Pre_groups_cover.lean ====
abbrev S73728x3072 : Shape := ⟨2, ![73728, 3072]⟩
abbrev S8 : Shape := ⟨1, ![8]⟩
abbrev S8x1024x1536 : Shape := ⟨3, ![8, 1024, 1536]⟩
abbrev S8x1024x96 : Shape := ⟨3, ![8, 1024, 96]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S73728x3072 .bf16) (main_arg1 : IVec S8 32) (main_arg2 : IVec S8x1024x1536 8) (main_arg3 : FVec F S8x1024x96 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 73728#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_c_2 : IVec S_ 32 := constantI S_ 32 0#32
  let main_v6 : IVec S_ 32 := (fun x v => Host.reduce IntOp.addi x v reducesTo_S8_S_d0 h_S_) main_arg1 main_c_2
  let main_c_3 : IVec S_ 32 := constantI S_ 32 73728#32
  let main_v7 : IVec S_ 1 := cmpi .eq main_v6 main_c_3
  let main_v8 : IVec S_ 1 := andi main_v5 main_v7
  main_v8
-- ==== Pre_groups_cover_bf16_tokens.lean ====
abbrev S73728x3072 : Shape := ⟨2, ![73728, 3072]⟩
abbrev S8 : Shape := ⟨1, ![8]⟩
abbrev S8x1024x1536 : Shape := ⟨3, ![8, 1024, 1536]⟩
abbrev S8x1024x96 : Shape := ⟨3, ![8, 1024, 96]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S73728x3072 : S_.BroadcastsInDim S73728x3072 (![] : Fin 0 → Fin S73728x3072.rank)
  reducesTo_S73728x3072_S_d0_1 : S73728x3072.ReducesTo [0, 1] S_

variable [Facts]

def fn_part1 {F : FTy → Type} [FloatOps F] (main_v5 : IVec S_ 1) (main_v13 : IVec S_ 1) (main_v15 : IVec S_ 1) : IVec S_ 1 :=
  let main_v16 : IVec S_ 1 := andi main_v5 main_v15
  let main_v17 : IVec S_ 1 := andi main_v16 main_v13
  main_v17

def fn {F : FTy → Type} [FloatOps F] (main_arg0 : FVec F S73728x3072 .bf16) (main_arg1 : IVec S8 32) (main_arg2 : IVec S8x1024x1536 8) (main_arg3 : FVec F S8x1024x96 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 73728#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_v6 : FVec F S73728x3072 .f32 := (extf .f32 · bitsLt_bf16_f32) main_arg0
  let main_v7 : FVec F S73728x3072 .f32 := Host.absf main_v6
  let main_cst : FVec F S_ .f32 := constant S_ .f32 0x7F7F0000#32
  let main_v8 : FVec F S73728x3072 .f32 := broadcastInDim S73728x3072 ![] bcast_S_S73728x3072 main_cst
  let main_v9 : IVec S73728x3072 1 := cmpf .ole main_v7 main_v8
  let main_cst_2 : FVec F S_ .f32 := constant S_ .f32 0x7F800000#32
  let main_v10 : FVec F S73728x3072 .f32 := broadcastInDim S73728x3072 ![] bcast_S_S73728x3072 main_cst_2
  let main_v11 : IVec S73728x3072 1 := cmpf .oeq main_v7 main_v10
  let main_v12 : IVec S73728x3072 1 := ori main_v9 main_v11
  let main_c_3 : IVec S_ 1 := constantI S_ 1 1#1
  let main_v13 : IVec S_ 1 := (fun x v => Host.reduce IntOp.andi x v reducesTo_S73728x3072_S_d0_1 h_S_) main_v12 main_c_3
  let main_c_4 : IVec S_ 32 := constantI S_ 32 0#32
  let main_v14 : IVec S_ 32 := (fun x v => Host.reduce IntOp.addi x v reducesTo_S8_S_d0 h_S_) main_arg1 main_c_4
  let main_c_5 : IVec S_ 32 := constantI S_ 32 73728#32
  let main_v15 : IVec S_ 1 := cmpi .eq main_v14 main_c_5
  fn_part1 (F := F) main_v5 main_v13 main_v15
-- ==== Kernel.lean ====
abbrev S73728x3072 : Shape := ⟨2, ![73728, 3072]⟩
abbrev S8 : Shape := ⟨1, ![8]⟩
abbrev S8x1024x1536 : Shape := ⟨3, ![8, 1024, 1536]⟩
abbrev S8x1024x96 : Shape := ⟨3, ![8, 1024, 96]⟩
abbrev S_ : Shape := ⟨0, ![]⟩
abbrev S151 : Shape := ⟨1, ![151]⟩
abbrev S1 : Shape := ⟨1, ![1]⟩
abbrev S151x1 : Shape := ⟨2, ![151, 1]⟩
abbrev S1x8 : Shape := ⟨2, ![1, 8]⟩
abbrev S151x8 : Shape := ⟨2, ![151, 8]⟩
abbrev S8x1536x1024 : Shape := ⟨3, ![8, 1536, 1024]⟩
abbrev S8x96x1024 : Shape := ⟨3, ![8, 96, 1024]⟩
abbrev S73728x1024 : Shape := ⟨2, ![73728, 1024]⟩
abbrev S512x3072 : Shape := ⟨2, ![512, 3072]⟩
abbrev S1x1536x1024 : Shape := ⟨3, ![1, 1536, 1024]⟩
abbrev S1x96x1024 : Shape := ⟨3, ![1, 96, 1024]⟩
abbrev S512x1024 : Shape := ⟨2, ![512, 1024]⟩
abbrev S3072x1024 : Shape := ⟨2, ![3072, 1024]⟩
abbrev S1536x1024 : Shape := ⟨2, ![1536, 1024]⟩
abbrev S1536x1x1024 : Shape := ⟨3, ![1536, 1, 1024]⟩
abbrev S1536x2x1024 : Shape := ⟨3, ![1536, 2, 1024]⟩
abbrev S96x1024 : Shape := ⟨2, ![96, 1024]⟩
abbrev S96x32x1024 : Shape := ⟨3, ![96, 32, 1024]⟩
abbrev S96x1x1024 : Shape := ⟨3, ![96, 1, 1024]⟩
abbrev S512 : Shape := ⟨1, ![512]⟩
abbrev S512x1 : Shape := ⟨2, ![512, 1]⟩
abbrev S1x256 : Shape := ⟨2, ![1, 256]⟩
abbrev S512x256 : Shape := ⟨2, ![512, 256]⟩

abbrev nBuf : Space → Nat
  | .hbm => 113
  | .vmem => 10
  | .smem => 3
  | _ => 0

abbrev bufTy : (tb : Table) → Fin (tcTables nBuf tb) → BufTy
  | .hbm, ⟨0, _⟩ => ⟨S73728x3072, .bf16⟩
  | .hbm, ⟨1, _⟩ => ⟨S8, .i32⟩
  | .hbm, ⟨2, _⟩ => ⟨S8x1024x1536, .i8⟩
  | .hbm, ⟨3, _⟩ => ⟨S8x1024x96, .f32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i1⟩
  | .hbm, ⟨45, _⟩ => ⟨S8, .i1⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S8, .i32⟩
  | .hbm, ⟨61, _⟩ => ⟨S151, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S151, .i32⟩
  | .hbm, ⟨67, _⟩ => ⟨S151, .i32⟩
  | .hbm, ⟨68, _⟩ => ⟨S151x1, .i32⟩
  | .hbm, ⟨69, _⟩ => ⟨S1x8, .i32⟩
  | .hbm, ⟨70, _⟩ => ⟨S151x8, .i32⟩
  | .hbm, ⟨71, _⟩ => ⟨S151x8, .i32⟩
  | .hbm, ⟨72, _⟩ => ⟨S151x8, .i1⟩
  | .hbm, ⟨73, _⟩ => ⟨S151x8, .i32⟩
  | .hbm, ⟨74, _⟩ => ⟨S_, .i32⟩
  | .hbm, ⟨75, _⟩ => ⟨S_, .i32⟩
  | .hbm, ⟨76, _⟩ => ⟨S151, .i32⟩
  | .hbm, ⟨77, _⟩ => ⟨S151, .i1⟩
  | .hbm, ⟨78, _⟩ => ⟨S_, .i32⟩
  | .hbm, ⟨79, _⟩ => ⟨S151, .i32⟩
  | .hbm, ⟨80, _⟩ => ⟨S151, .i32⟩
  | .hbm, ⟨81, _⟩ => ⟨S151, .i32⟩
  | .hbm, ⟨82, _⟩ => ⟨S151x1, .i32⟩
  | .hbm, ⟨83, _⟩ => ⟨S151, .i32⟩
  | .hbm, ⟨84, _⟩ => ⟨S151, .i32⟩
  | .hbm, ⟨85, _⟩ => ⟨S8, .i32⟩
  | .hbm, ⟨86, _⟩ => ⟨S_, .i32⟩
  | .hbm, ⟨87, _⟩ => ⟨S151, .i32⟩
  | .hbm, ⟨88, _⟩ => ⟨S151, .i1⟩
  | .hbm, ⟨89, _⟩ => ⟨S_, .i32⟩
  | .hbm, ⟨90, _⟩ => ⟨S151, .i32⟩
  | .hbm, ⟨91, _⟩ => ⟨S151, .i32⟩
  | .hbm, ⟨92, _⟩ => ⟨S151, .i32⟩
  | .hbm, ⟨93, _⟩ => ⟨S151x1, .i32⟩
  | .hbm, ⟨94, _⟩ => ⟨S151, .i32⟩
  | .hbm, ⟨95, _⟩ => ⟨S_, .i32⟩
  | .hbm, ⟨96, _⟩ => ⟨S151, .i32⟩
  | .hbm, ⟨97, _⟩ => ⟨S151, .i1⟩
  | .hbm, ⟨98, _⟩ => ⟨S_, .i32⟩
  | .hbm, ⟨99, _⟩ => ⟨S151, .i32⟩
  | .hbm, ⟨100, _⟩ => ⟨S151, .i32⟩
  | .hbm, ⟨101, _⟩ => ⟨S151, .i32⟩
  | .hbm, ⟨102, _⟩ => ⟨S151x1, .i32⟩
  | .hbm, ⟨103, _⟩ => ⟨S151, .i32⟩
  | .hbm, ⟨104, _⟩ => ⟨S_, .i32⟩
  | .hbm, ⟨105, _⟩ => ⟨S151, .i32⟩
  | .hbm, ⟨106, _⟩ => ⟨S151, .i32⟩
  | .hbm, ⟨107, _⟩ => ⟨S151, .i32⟩
  | .hbm, ⟨108, _⟩ => ⟨S_, .i32⟩
  | .hbm, ⟨109, _⟩ => ⟨S151, .i32⟩
  | .hbm, ⟨110, _⟩ => ⟨S8x1536x1024, .i8⟩
  | .hbm, ⟨111, _⟩ => ⟨S8x96x1024, .f32⟩
  | .hbm, ⟨112, _⟩ => ⟨S73728x1024, .bf16⟩
  | .local _ .vmem, ⟨0, _⟩ => ⟨S512x3072, .bf16⟩
  | .local _ .vmem, ⟨1, _⟩ => ⟨S512x3072, .bf16⟩
  | .local _ .vmem, ⟨2, _⟩ => ⟨S1x1536x1024, .i8⟩
  | .local _ .vmem, ⟨3, _⟩ => ⟨S1x1536x1024, .i8⟩
  | .local _ .vmem, ⟨4, _⟩ => ⟨S1x96x1024, .f32⟩
  | .local _ .vmem, ⟨5, _⟩ => ⟨S1x96x1024, .f32⟩
  | .local _ .vmem, ⟨6, _⟩ => ⟨S512x1024, .bf16⟩
  | .local _ .vmem, ⟨7, _⟩ => ⟨S512x1024, .bf16⟩
  | .local _ .vmem, ⟨8, _⟩ => ⟨S3072x1024, .fp8e5m2⟩
  | .local _ .vmem, ⟨9, _⟩ => ⟨S512x1024, .bf16⟩
  | .local _ .smem, ⟨0, _⟩ => ⟨S151, .i32⟩
  | .local _ .smem, ⟨1, _⟩ => ⟨S151, .i32⟩
  | .local _ .smem, ⟨2, _⟩ => ⟨S151, .i32⟩
  | _, _ => ⟨S73728x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_c_3 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_c_6 : Ref sig .tc := ⟨.hbm, 74, rfl⟩
abbrev main_c_7 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c_9 : Ref sig .tc := ⟨.hbm, 86, rfl⟩
abbrev main_v35 : Ref sig .tc := ⟨.hbm, 87, rfl⟩
abbrev main_v36 : Ref sig .tc := ⟨.hbm, 88, rfl⟩
abbrev main_c_10 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_c_11 : Ref sig .tc := ⟨.hbm, 95, rfl⟩
abbrev main_v43 : Ref sig .tc := ⟨.hbm, 96, rfl⟩
abbrev main_v44 : Ref sig .tc := ⟨.hbm, 97, rfl⟩
abbrev main_c_12 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_c_13 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_14 : Ref sig .tc := ⟨.hbm, 108, rfl⟩
abbrev main_v53 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v42 : Ref sig .tc := ⟨.smem, 0, rfl⟩
abbrev main_v25 : Ref sig .tc := ⟨.smem, 1, rfl⟩
abbrev main_v54 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![151], ![false]⟩

abbrev pre0 : Pipeline.Prefetch sig := ⟨3, ![main_v42.idx, main_v25.idx, main_v54.idx], fun | 0 => main_v42.names | 1 => main_v25.names | 2 => main_v54.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off3 (i : grid0.Coords) : Fin 1 → Nat :=
  let arg0 : BitVec 32 := BitVec.ofNat 32 (i 0).val
  let v11 : Index := Scalar.indexCast arg0
  ![v11.toNat]
def cc0_transform_0 (k0_off1_inb : ∀ i : grid0.Coords, ∀ a, (k0_off1 i) a + S1.size a ≤ S151.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S151.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S151) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S151.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S151) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S151.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S151) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S73728x3072 : Shape := ⟨2, ![73728, 3072]⟩
abbrev S8 : Shape := ⟨1, ![8]⟩
abbrev S8x1024x1536 : Shape := ⟨3, ![8, 1024, 1536]⟩
abbrev S8x1024x96 : Shape := ⟨3, ![8, 1024, 96]⟩
abbrev S_ : Shape := ⟨0, ![]⟩
abbrev S8x1024x1536x1 : Shape := ⟨4, ![8, 1024, 1536, 1]⟩
abbrev S8x1024x1536x2 : Shape := ⟨4, ![8, 1024, 1536, 2]⟩
abbrev S8x1024x96x32 : Shape := ⟨4, ![8, 1024, 96, 32]⟩
abbrev S8x1024x96x1 : Shape := ⟨4, ![8, 1024, 96, 1]⟩
abbrev S8x1024x3072 : Shape := ⟨3, ![8, 1024, 3072]⟩
abbrev S8x3072x1024 : Shape := ⟨3, ![8, 3072, 1024]⟩
abbrev S73728x1024 : Shape := ⟨2, ![73728, 1024]⟩
abbrev S73728 : Shape := ⟨1, ![73728]⟩
abbrev S73728x1 : Shape := ⟨2, ![73728, 1]⟩
abbrev S1 : Shape := ⟨1, ![1]⟩
abbrev S1x3072x1024 : Shape := ⟨3, ![1, 3072, 1024]⟩
abbrev S3072x1024 : Shape := ⟨2, ![3072, 1024]⟩

abbrev nBuf : Space → Nat
  | .hbm => 33
  | .vmem => 3
  | .smem => 2
  | _ => 0

abbrev bufTy : (tb : Table) → Fin (tcTables nBuf tb) → BufTy
  | .hbm, ⟨0, _⟩ => ⟨S73728x3072, .bf16⟩
  | .hbm, ⟨1, _⟩ => ⟨S8, .i32⟩
  | .hbm, ⟨2, _⟩ => ⟨S8x1024x1536, .i8⟩
  | .hbm, ⟨3, _⟩ => ⟨S8x1024x96, .f32⟩
  | .hbm, ⟨4, _⟩ => ⟨S8x1024x1536, .i32⟩
  | .hbm, ⟨5, _⟩ => ⟨S_, .i32⟩
  | .hbm, ⟨6, _⟩ => ⟨S8x1024x1536, .i32⟩
  | .hbm, ⟨7, _⟩ => ⟨S8x1024x1536, .i32⟩
  | .hbm, ⟨8, _⟩ => ⟨S_, .i32⟩
  | .hbm, ⟨9, _⟩ => ⟨S8x1024x1536, .i32⟩
  | .hbm, ⟨10, _⟩ => ⟨S8x1024x1536, .i32⟩
  | .hbm, ⟨11, _⟩ => ⟨S_, .i32⟩
  | .hbm, ⟨12, _⟩ => ⟨S8x1024x1536, .i32⟩
  | .hbm, ⟨13, _⟩ => ⟨S8x1024x1536, .i32⟩
  | .hbm, ⟨14, _⟩ => ⟨S_, .i32⟩
  | .hbm, ⟨15, _⟩ => ⟨S8x1024x1536, .i32⟩
  | .hbm, ⟨16, _⟩ => ⟨S8x1024x1536, .i32⟩
  | .hbm, ⟨17, _⟩ => ⟨S8x1024x1536x1, .i32⟩
  | .hbm, ⟨18, _⟩ => ⟨S8x1024x1536x1, .i32⟩
  | .hbm, ⟨19, _⟩ => ⟨S8x1024x1536x2, .i32⟩
  | .hbm, ⟨20, _⟩ => ⟨S8x1024x96x32, .i32⟩
  | .hbm, ⟨21, _⟩ => ⟨S8x1024x96, .bf16⟩
  | .hbm, ⟨22, _⟩ => ⟨S8x1024x96x32, .bf16⟩
  | .hbm, ⟨23, _⟩ => ⟨S8x1024x96x1, .bf16⟩
  | .hbm, ⟨24, _⟩ => ⟨S8x1024x96x32, .bf16⟩
  | .hbm, ⟨25, _⟩ => ⟨S8x1024x96x32, .bf16⟩
  | .hbm, ⟨26, _⟩ => ⟨S8x1024x3072, .bf16⟩
  | .hbm, ⟨27, _⟩ => ⟨S8x3072x1024, .bf16⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S73728x1024, .bf16⟩
  | .local _ .vmem, ⟨0, _⟩ => ⟨S73728x3072, .bf16⟩
  | .local _ .vmem, ⟨1, _⟩ => ⟨S8x3072x1024, .bf16⟩
  | .local _ .vmem, ⟨2, _⟩ => ⟨S73728x1024, .bf16⟩
  | .local _ .smem, ⟨0, _⟩ => ⟨S8, .i32⟩
  | .local _ .smem, ⟨1, _⟩ => ⟨S8, .i32⟩
  | _, _ => ⟨S73728x3072, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_call0_c : Ref sig .tc := ⟨.hbm, 28, rfl⟩
abbrev main_call0_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S73728x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S73728x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Sched.lean ====
/- The visit schedule as natural numbers. The tokens are sorted by expert; expert `e` owns the rows from `P G e` up to
   `P G (e + 1)`. A VISIT is a pair of an expert and one of the 512-row tiles its rows meet; the visits are listed expert
   by expert, tile by tile, and the list is padded to 151 by repeating its last entry. This module names what the host's
   tables hold at visit `t` (`ve`, `vt`, `vlo`) and proves the facts about them that the value argument rests on. -/
module

public import Mathlib.Data.Nat.Count
public import Mathlib.Algebra.BigOperators.Group.List.Basic
public import Mathlib.Tactic.Linarith

@[expose] public section

namespace Cert.Sched

/-- The sum of the first `e` values of `f`: for the group sizes, the first row of expert `e`. -/
def P (f : ℕ → ℕ) (e : ℕ) : ℕ := ((List.range e).map f).sum

/-- The number of tiles that the rows of expert `e` meet. -/
def C (G : ℕ → ℕ) (e : ℕ) : ℕ := if 0 < G e then (P G (e + 1) - 1) / 512 - P G e / 512 + 1 else 0

/-- The first visit of expert `e`. -/
def B (G : ℕ → ℕ) (e : ℕ) : ℕ := P (C G) e

/-- The visit that grid point `t` makes: `t` itself, or the last visit once the list is used up. -/
def vx (G : ℕ → ℕ) (t : ℕ) : ℕ := min t (B G 8 - 1)

/-- The expert of grid point `t`: how many experts have all their visits before it. -/
def ve (G : ℕ → ℕ) (t : ℕ) : ℕ := Nat.count (fun q => B G (q + 1) ≤ vx G t) 8

/-- The tile of grid point `t`. -/
def vt (G : ℕ → ℕ) (t : ℕ) : ℕ := P G (ve G t) / 512 + vx G t - B G (ve G t)

/-- The first row of the tile that the expert of grid point `t` owns. -/
def vlo (G : ℕ → ℕ) (t : ℕ) : ℕ := P G (ve G t) - 512 * vt G t

variable {G : ℕ → ℕ}

/-- One more summand. -/
theorem P_succ (f : ℕ → ℕ) (e : ℕ) : P f (e + 1) = P f e + f e := by
  simp [P, List.range_succ]

/-- No summand. -/
theorem P_zero (f : ℕ → ℕ) : P f 0 = 0 := rfl

/-- The partial sums grow. -/
theorem P_mono (f : ℕ → ℕ) {a b : ℕ} (h : a ≤ b) : P f a ≤ P f b := by
  induction h with
  | refl => exact le_rfl
  | step _ ih => rw [P_succ]; omega

/-- One more expert's visits. -/
theorem B_succ (e : ℕ) : B G (e + 1) = B G e + C G e := P_succ _ _

/-- The visits of earlier experts come first. -/
theorem B_mono {a b : ℕ} (h : a ≤ b) : B G a ≤ B G b := P_mono _ h

/-- An expert with rows has at least one visit, and its last visit is its last row's tile. -/
theorem C_pos {e : ℕ} (h : 0 < G e) : C G e = (P G (e + 1) - 1) / 512 - P G e / 512 + 1 ∧ P G e / 512 ≤ (P G (e + 1) - 1) / 512 := by
  refine ⟨if_pos h, Nat.div_le_div_right ?_⟩
  rw [P_succ]; omega

/-- An expert with a visit has a row. -/
theorem G_pos_of_C {e : ℕ} (h : 0 < C G e) : 0 < G e := by
  by_contra hn; rw [C, if_neg hn] at h; omega

/-- The visits before expert `e` number at most its tiles before the last plus one per expert. -/
theorem B_le (e : ℕ) : (P G e = 0 → B G e = 0) ∧ (0 < P G e → B G e ≤ (P G e - 1) / 512 + e) := by
  induction e with
  | zero => exact ⟨fun _ => rfl, fun h => by simp [P_zero] at h⟩
  | succ e ih =>
    have hP := P_succ G e
    have hB := B_succ (G := G) e
    by_cases hg : 0 < G e
    · obtain ⟨hc, hle⟩ := C_pos hg
      refine ⟨fun h => by omega, fun _ => ?_⟩
      rcases Nat.eq_zero_or_pos (P G e) with h0 | h0
      · have := ih.1 h0; omega
      · have := ih.2 h0
        have : (P G e - 1) / 512 ≤ P G e / 512 := Nat.div_le_div_right (by omega)
        omega
    · have hc : C G e = 0 := if_neg hg
      have h0 : G e = 0 := by omega
      rw [h0, Nat.add_zero] at hP
      rw [hc, Nat.add_zero] at hB
      rw [hP, hB]
      exact ⟨ih.1, fun h => by have := ih.2 h; omega⟩

/-- There are at most 151 visits. -/
theorem B8_le (hG : P G 8 = 73728) : B G 8 ≤ 151 := by
  have := (B_le (G := G) 8).2 (by omega); omega

/-- Somebody owns a row, so there is a visit. -/
theorem exists_pos_below (f : ℕ → ℕ) {n i : ℕ} (h : i < P f n) : ∃ e, e < n ∧ P f e ≤ i ∧ i < P f (e + 1) := by
  induction n with
  | zero => simp [P_zero] at h
  | succ n ih =>
    by_cases hn : i < P f n
    · obtain ⟨e, he, h1, h2⟩ := ih hn; exact ⟨e, by omega, h1, h2⟩
    · exact ⟨n, by omega, by omega, h⟩

/-- There is at least one visit. -/
theorem B8_pos (hG : P G 8 = 73728) : 0 < B G 8 := by
  obtain ⟨e, he, h1, h2⟩ := exists_pos_below G (n := 8) (i := 0) (by omega)
  have hg : 0 < G e := by rw [P_succ] at h2; omega
  have := (C_pos hg).1
  have h3 : B G (e + 1) ≤ B G 8 := B_mono (by omega)
  have := B_succ (G := G) e
  omega

/-- Counting a set of numbers that ends below `n`. -/
theorem count_eq {p : ℕ → Prop} [DecidablePred p] {e n : ℕ} (he : e ≤ n) (h1 : ∀ q < e, p q) (h2 : ∀ q, e ≤ q → q < n → ¬ p q) :
    Nat.count p n = e := by
  induction n with
  | zero => simp; omega
  | succ n ih =>
    rw [Nat.count_succ]
    rcases Nat.lt_or_ge n e with h | h
    · have hen : e = n + 1 := by omega
      have : Nat.count p n = n := by
        rw [Nat.count_iff_forall]; intro q hq; exact h1 q (by omega)
      rw [this, if_pos (h1 n h), hen]
    · rw [ih h (fun q a b => h2 q a (by omega)), if_neg (h2 n h (by omega)), Nat.add_zero]

/-- Visit `x` of the list belongs to the expert whose visits surround it. -/
theorem count_of {x e : ℕ} (he : e < 8) (h1 : B G e ≤ x) (h2 : x < B G (e + 1)) : Nat.count (fun q => B G (q + 1) ≤ x) 8 = e := by
  refine count_eq (by omega) (fun q hq => ?_) (fun q hq hq' => ?_)
  · have := B_mono (G := G) (show q + 1 ≤ e by omega); show B G (q + 1) ≤ x; omega
  · have := B_mono (G := G) (show e + 1 ≤ q + 1 by omega); show ¬ B G (q + 1) ≤ x; omega

/-- The visit of a grid point is in the list. -/
theorem vx_lt (hG : P G 8 = 73728) (t : ℕ) : vx G t < B G 8 := by
  have := B8_pos hG; unfold vx; omega

/-- (S1) The expert of a grid point is one of the eight, and its visits surround the point's visit. -/
theorem ve_spec (hG : P G 8 = 73728) (t : ℕ) : ve G t < 8 ∧ B G (ve G t) ≤ vx G t ∧ vx G t < B G (ve G t + 1) := by
  obtain ⟨e, he, h1, h2⟩ := exists_pos_below (C G) (n := 8) (i := vx G t) (vx_lt hG t)
  have h : ve G t = e := count_of he h1 h2
  rw [h]; exact ⟨he, h1, h2⟩

/-- The expert of a grid point has rows, and the point's tile is one of the tiles those rows meet. -/
theorem vt_spec (hG : P G 8 = 73728) (t : ℕ) :
    0 < G (ve G t) ∧ P G (ve G t) / 512 ≤ vt G t ∧ vt G t ≤ (P G (ve G t + 1) - 1) / 512
      ∧ vt G t - P G (ve G t) / 512 = vx G t - B G (ve G t) := by
  obtain ⟨he, h1, h2⟩ := ve_spec hG t
  have hB := B_succ (G := G) (ve G t)
  have hg : 0 < G (ve G t) := G_pos_of_C (by omega)
  obtain ⟨hc, hle⟩ := C_pos hg
  unfold vt
  refine ⟨hg, by omega, by omega, by omega⟩

/-- An expert's rows end by the last token. -/
theorem P_le (hG : P G 8 = 73728) {e : ℕ} (he : e ≤ 8) : P G e ≤ 73728 := hG ▸ P_mono G he

/-- (S1) The tile of a grid point is one of the 144. -/
theorem vt_lt (hG : P G 8 = 73728) (t : ℕ) : vt G t < 144 := by
  obtain ⟨he, _, _⟩ := ve_spec hG t
  obtain ⟨_, _, h, _⟩ := vt_spec hG t
  have := P_le hG (show ve G t + 1 ≤ 8 by omega)
  omega

/-- A place in the list of visits determines expert and tile. -/
theorem at_visit {t e : ℕ} (he : e < 8) (h1 : B G e ≤ vx G t) (h2 : vx G t < B G (e + 1)) :
    ve G t = e ∧ vt G t = P G e / 512 + (vx G t - B G e) := by
  have h : ve G t = e := count_of he h1 h2
  refine ⟨h, ?_⟩; unfold vt; rw [h]; omega

/-- The group before a first row that is not row zero: it has rows, and they end there. -/
theorem exists_before {e : ℕ} (h : 0 < P G e) : ∃ d, d < e ∧ 0 < G d ∧ P G (d + 1) = P G e ∧ B G (d + 1) = B G e := by
  induction e with
  | zero => simp [P_zero] at h
  | succ e ih =>
    by_cases hg : 0 < G e
    · exact ⟨e, by omega, hg, rfl, rfl⟩
    · have hP := P_succ G e
      have hB := B_succ (G := G) e
      have hc : C G e = 0 := if_neg hg
      obtain ⟨d, hd, h1, h2, h3⟩ := ih (by omega)
      exact ⟨d, by omega, h1, by omega, by omega⟩

/-- (S3) Where the expert starts inside the tile, the grid point before was at the same tile, and its expert's rows reach
    this expert's first row. -/
theorem prev_of_lo (hG : P G 8 = 73728) {t : ℕ} (h : 0 < vlo G t) :
    0 < t ∧ vt G (t - 1) = vt G t ∧ P G (ve G t) ≤ P G (ve G (t - 1) + 1) := by
  obtain ⟨he, h1, h2⟩ := ve_spec hG t
  obtain ⟨hg, h3, h4, h5⟩ := vt_spec hG t
  unfold vlo at h
  obtain ⟨d, hd, hgd, hPd, hBd⟩ := exists_before (G := G) (e := ve G t) (by omega)
  obtain ⟨hc, hle⟩ := C_pos hgd
  have hBs := B_succ (G := G) d
  have ht : 0 < t := by have : vx G t ≤ t := min_le_left _ _; omega
  have hx : vx G (t - 1) = vx G t - 1 ∨ vx G (t - 1) = vx G t := by unfold vx; omega
  refine ⟨ht, ?_⟩
  rcases hx with hx | hx
  · obtain ⟨a1, a2⟩ := at_visit (G := G) (t := t - 1) (e := d) (by omega) (by omega) (by omega)
    rw [a1, a2, hPd]
    refine ⟨?_, le_rfl⟩
    rw [hPd] at hc hle
    omega
  · obtain ⟨a1, a2⟩ := at_visit (G := G) (t := t - 1) (e := ve G t) he (by omega) (by omega)
    rw [a1, a2]
    exact ⟨by omega, P_mono G (by omega)⟩

/-- (S4) Where the next grid point is at another tile, or there is none, the expert's rows reach the end of the tile. -/
theorem end_of_flush (hG : P G 8 = 73728) {t : ℕ} (ht : t < 151) (h : t = 150 ∨ vt G (t + 1) ≠ vt G t) :
    512 * (vt G t + 1) ≤ P G (ve G t + 1) := by
  obtain ⟨he, h1, h2⟩ := ve_spec hG t
  obtain ⟨hg, h3, h4, h5⟩ := vt_spec hG t
  obtain ⟨he', h1', h2'⟩ := ve_spec hG (t + 1)
  obtain ⟨hg', h3', h4', h5'⟩ := vt_spec hG (t + 1)
  obtain ⟨hc, hle⟩ := C_pos hg
  have hB := B_succ (G := G) (ve G t)
  have hPs := P_succ G (ve G t)
  by_cases hlast : vx G t = B G 8 - 1
  · -- the last visit: the last expert with rows, at its last tile
    have h8 := B8_le hG
    have hp8 := B8_pos hG
    have hB8 : B G (ve G t + 1) = B G 8 := le_antisymm (B_mono (by omega)) (by omega)
    obtain ⟨d, hd, hgd, hPd, hBd⟩ := exists_before (G := G) (e := 8) (by omega)
    have hBs := B_succ (G := G) d
    have hcd := (C_pos hgd).1
    have hed : ve G t = d := (at_visit (G := G) (t := t) (e := d) hd (by omega) (by omega)).1
    rw [hed] at h1 h2 h3 h4 h5 hc hle hB hPs hB8 ⊢
    omega
  · have hx : vx G (t + 1) = vx G t + 1 := by
      have := vx_lt hG t
      unfold vx at *; omega
    have ht' : t ≠ 150 := by
      rintro rfl
      have := B8_le hG
      unfold vx at hlast; omega
    have hne : vt G (t + 1) ≠ vt G t := h.resolve_left ht'
    by_cases hin : vx G t + 1 < B G (ve G t + 1)
    · obtain ⟨a1, a2⟩ := at_visit (G := G) (t := t + 1) (e := ve G t) he (by omega) (by omega)
      omega
    · -- the next visit is the next expert's first
      have hlt : ve G t < ve G (t + 1) := by
        by_contra hn
        have := B_mono (G := G) (show ve G (t + 1) + 1 ≤ ve G t + 1 by omega)
        omega
      have hb : B G (ve G t + 1) = B G (ve G (t + 1)) := by
        have := B_mono (G := G) (show ve G t + 1 ≤ ve G (t + 1) by omega); omega
      have hP1 := P_mono G (show ve G t + 1 ≤ ve G (t + 1) by omega)
      obtain ⟨d, hd, hgd, hPd, hBd⟩ := exists_before (G := G) (e := ve G (t + 1)) (by omega)
      have hcd := (C_pos hgd).1
      have hBs := B_succ (G := G) d
      have hed : ve G t = d := (at_visit (G := G) (t := t) (e := d) (by omega) (by omega) (by omega)).1
      rw [hed] at h1 h2 h3 h4 h5 hc hle hB hPs hb hP1 hin ⊢
      omega

/-- (S5) Every tile is visited. -/
theorem exists_visit (hG : P G 8 = 73728) {T : ℕ} (hT : T < 144) : ∃ t, t < 151 ∧ vt G t = T := by
  obtain ⟨e, he, h1, h2⟩ := exists_pos_below G (n := 8) (i := 512 * T) (by omega)
  have hPs := P_succ G e
  obtain ⟨hc, hle⟩ := C_pos (G := G) (e := e) (by omega)
  have hB := B_succ (G := G) e
  have hB8 : B G (e + 1) ≤ B G 8 := B_mono (by omega)
  have h8 := B8_le hG
  have hx : vx G (B G e + (T - P G e / 512)) = B G e + (T - P G e / 512) := by
    unfold vx; omega
  refine ⟨B G e + (T - P G e / 512), by omega, ?_⟩
  obtain ⟨a1, a2⟩ := at_visit (G := G) (t := B G e + (T - P G e / 512)) (e := e) he (by omega) (by omega)
  rw [a2, hx]; omega

/-- The expert of a row is determined by the row. -/
theorem expert_unique {i d e : ℕ} (h1 : P G d ≤ i) (h2 : i < P G (d + 1)) (h3 : P G e ≤ i) (h4 : i < P G (e + 1)) : d = e := by
  rcases Nat.lt_trichotomy d e with h | h | h
  · have := P_mono G (show d + 1 ≤ e by omega); omega
  · exact h
  · have := P_mono G (show e + 1 ≤ d by omega); omega

end Cert.Sched
-- ==== Proof.Tables.lean ====
/- The host's three tables as functions of the group sizes, operation by operation as the host computes them on 32-bit
   words, and the reading of each on words that hold the naturals of a schedule (Sched.lean): no sum overflows, each
   floor division is the naturals', and each take is in range. -/
module

public import Idealize.ShloMosaic.Lib.Routing.OpsSearch
public import Idealize.ShloMosaic.Lib.Routing.OpsPair
public import Idealize.ShloMosaic.Lib.Routing.OpsSet
public import proofs.«01_k».proof.Proof.Sched

@[expose] public section

set_option maxRecDepth 16384

noncomputable section

namespace Cert.Tables

open Idealize.ShloMosaic Idealize.ShloMosaic.ValueIdx Idealize.ShloMosaic.WordCmp Idealize.ShloMosaic.Routing
open Cert.Sched

/-- One word per expert. -/
abbrev V8 := IVec (shape1 8) 32
/-- One word per grid point. -/
abbrev V151 := IVec (shape1 151) 32
/-- One word. -/
abbrev V0 := IVec shape0 32

theorem b00 : shape0.BroadcastsInDim shape0 (![] : Fin 0 → Fin shape0.rank) := by decide
theorem b08 : shape0.BroadcastsInDim (shape1 8) (![] : Fin 0 → Fin (shape1 8).rank) := by decide
theorem b0g : shape0.BroadcastsInDim (shape1 151) (![] : Fin 0 → Fin (shape1 151).rank) := by decide
theorem bcol : (shape1 151).BroadcastsInDim (shape2 151 1) (![0] : Fin 1 → Fin (shape2 151 1).rank) := by decide
theorem brow : (shape1 8).BroadcastsInDim (shape2 1 8) (![1] : Fin 1 → Fin (shape2 1 8).rank) := by decide
theorem bcolw : (shape2 151 1).BroadcastsInDim (shape2 151 8) (![0, 1] : Fin 2 → Fin (shape2 151 8).rank) := by decide
theorem browh : (shape2 1 8).BroadcastsInDim (shape2 151 8) (![0, 1] : Fin 2 → Fin (shape2 151 8).rank) := by decide
theorem rw8 : (shape1 8).ReduceWindows (![8] : Fin 1 → Nat) ![1] ![7] ![0] (shape1 8) := by decide
theorem h0 : 0 < shape0.numel := by decide
theorem sl7 : (shape1 8).Slices ![7] (shape1 1) := by decide
theorem sc1 : (shape1 1).ShapeCasts shape0 := by decide
theorem red : (shape2 151 8).ReducesTo [1] (shape1 151) := by decide
theorem lt32 : 1 < 32 := by decide

/-- The take `table[idx]` of 151 words from 8. -/
def take8 : GatherDims (shape1 8) (shape2 151 1) (shape1 151) where
  offsetDims := []
  collapsedSliceDims := [0]
  operandBatchingDims := []
  startIndicesBatchingDims := []
  startIndexMap := [0]
  indexVectorDim := 1
  sliceSizes := ![1]

/-- The running sums of eight words. -/
def cums (x : V8) : V8 := Host.reduceWindow IntOp.addi ![8] ![1] ![7] ![0] x (broadcastInDim shape0 ![] b00 (constantI shape0 32 0#32)) rw8 h0
/-- Each expert's first row. -/
def startsV (g : V8) : V8 := subi (cums g) g
/-- The floor division by the tile height. -/
def div512 (x : V8) : V8 := pyDiv b08 x (constantI shape0 32 512#32)
/-- Each expert's first tile. -/
def firstV (g : V8) : V8 := div512 (startsV g)
/-- Each expert's number of visits, from its last row's tile, its first tile, and its size. -/
def cntW (g last first : V8) : V8 :=
  select (cmpi .sgt g (broadcastInDim (shape1 8) ![] b08 (constantI shape0 32 0#32)))
    (addi (subi last first) (broadcastInDim (shape1 8) ![] b08 (constantI shape0 32 1#32)))
    (broadcastInDim (shape1 8) ![] b08 (constantI shape0 32 0#32))
/-- Each expert's number of visits. -/
def cntV (g : V8) : V8 := cntW g (div512 (subi (cums g) (broadcastInDim (shape1 8) ![] b08 (constantI shape0 32 1#32)))) (firstV g)
/-- Where each expert's visits end. -/
def vendV (g : V8) : V8 := cums (cntV g)
/-- The visit of each grid point, from where the experts' visits end. -/
def vxW (vend : V8) : V151 :=
  minsi (iotaInDim (shape1 151) 32 0) (broadcastInDim (shape1 151) ![] b0g
    (subi (shapeCast shape0 (extractStridedSlice (shape1 1) ![7] vend sl7) sc1) (constantI shape0 32 1#32)))
/-- The visit of each grid point. -/
def vxV (g : V8) : V151 := vxW (vendV g)
/-- The expert of each grid point, from its visit and where the experts' visits end. -/
def veW (vend : V8) : V151 :=
  Host.reduce IntOp.addi (extui 32 (cmpi .sge (broadcastInDim (shape2 151 8) ![0, 1] bcolw (broadcastInDim (shape2 151 1) ![0] bcol (vxW vend)))
    (broadcastInDim (shape2 151 8) ![0, 1] browh (broadcastInDim (shape2 1 8) ![1] brow vend))) lt32) (constantI shape0 32 0#32) red h0
/-- The expert of each grid point. -/
def veV (g : V8) : V151 := veW (vendV g)
/-- The take of a per-expert word by the grid points' experts, negative indices wrapped as jnp wraps them. -/
def takeV (x : V8) (i : V151) : V151 :=
  Host.gather take8 x (broadcastInDim (shape2 151 1) ![0] bcol
    (select (cmpi .slt i (broadcastInDim (shape1 151) ![] b0g (constantI shape0 32 0#32)))
      (addi i (broadcastInDim (shape1 151) ![] b0g (constantI shape0 32 8#32))) i))
/-- The tile of each grid point, from the experts' first tiles, visits' ends and numbers of visits. -/
def vtW (first vend cnt : V8) : V151 := subi (addi (takeV first (veW vend)) (vxW vend)) (takeV (subi vend cnt) (veW vend))
/-- The tile of each grid point. -/
def vtV (g : V8) : V151 := vtW (firstV g) (vendV g) (cntV g)
/-- The first row of each grid point's tile that its expert owns, from the experts' first rows too. -/
def vloW (starts first vend cnt : V8) : V151 :=
  maxsi (subi (takeV starts (veW vend)) (muli (vtW first vend cnt) (broadcastInDim (shape1 151) ![] b0g (constantI shape0 32 512#32))))
    (broadcastInDim (shape1 151) ![] b0g (constantI shape0 32 0#32))
/-- The first row of each grid point's tile that its expert owns. -/
def vloV (g : V8) : V151 := vloW (startsV g) (firstV g) (vendV g) (cntV g)

/-! ## The words read -/

/-- Running sums of naturals. -/
theorem cums_ap (x : V8) (f : ℕ → ℕ) (hx : ∀ i : Fin 8, x (ix1 i) = BitVec.ofNat 32 (f i.val)) (j : Fin 8) :
    cums x (ix1 j) = BitVec.ofNat 32 (P f (j.val + 1)) :=
  cumsum1 (by rfl) x f hx _ (by rw [bc0]; rfl) rw8 h0 j

/-- A floor division of a natural by 512. -/
theorem div512_ap (x : V8) (j : Fin 8) {a : ℕ} (hx : x (ix1 j) = BitVec.ofNat 32 a) (ha : a < 2 ^ 31) :
    div512 x (ix1 j) = BitVec.ofNat 32 (a / 512) :=
  pyDiv_ap b08 x _ (ix1 j) hx rfl ha (by decide) (by decide)

/-- A take at a place in range. -/
theorem takeV_ap (x : V8) (i : V151) (p : Fin 151) {k : ℕ} (hk : k < 8) (hi : i (ix1 p) = BitVec.ofNat 32 k) :
    takeV x i (ix1 p) = x (ix1 ⟨k, hk⟩) := by
  refine take_ap take8 rfl rfl rfl rfl x _ p hk (by omega) ?_
  rw [bcCol, select_at, cmpi_at, bc0]
  show Scalar.select (IntOp.cmpi .slt (i (ix1 p)) 0#32) _ _ = _
  rw [wrap_of_lt _ _ (by rw [hi, BitVec.toNat_ofNat]; omega), hi]

/-- The one word of a one-word vector, as a scalar. -/
theorem cast_one (y : IVec (shape1 1) 32) : shapeCast shape0 y sc1 ix0 = y (ix1 (0 : Fin 1)) := by
  unfold shapeCast
  refine congrArg y (funext fun a => ?_)
  match a with
  | ⟨0, _⟩ => exact Subsingleton.elim (α := Fin 1) _ _

variable {g : V8} {G : ℕ → ℕ}

section
variable (hg : ∀ i : Fin 8, g (ix1 i) = BitVec.ofNat 32 (G i.val)) (hG : P G 8 = 73728)
include hg hG

/-- Each expert's first row, as a word. -/
theorem startsV_ap (j : Fin 8) : startsV g (ix1 j) = BitVec.ofNat 32 (P G j.val) := by
  unfold startsV
  rw [subi_ap, cums_ap g G hg, hg, P_succ, ofNat32_sub (by omega), Nat.add_sub_cancel]

/-- Each expert's first tile, as a word. -/
theorem firstV_ap (j : Fin 8) : firstV g (ix1 j) = BitVec.ofNat 32 (P G j.val / 512) :=
  div512_ap _ j (startsV_ap hg hG j) (by have := P_le hG (e := j.val) (by omega); omega)

/-- Each expert's number of visits, as a word. -/
theorem cntV_ap (j : Fin 8) : cntV g (ix1 j) = BitVec.ofNat 32 (C G j.val) := by
  have hP := P_succ G j.val
  have hl := P_le hG (e := j.val + 1) (by omega)
  unfold cntV cntW
  rw [select_at, cmpi_at, bc0, hg]
  show Scalar.select (IntOp.cmpi .sgt (BitVec.ofNat 32 (G j.val)) (BitVec.ofNat 32 0)) _ (BitVec.ofNat 32 0) = _
  have e : IntOp.cmpi .sgt (BitVec.ofNat 32 (G j.val)) (BitVec.ofNat 32 0) = BitVec.ofBool (decide (0 < G j.val)) :=
    congrArg BitVec.ofBool (slt_ofNat32 (by omega) (by omega))
  rw [e]
  by_cases h : 0 < G j.val
  · obtain ⟨hc, hle⟩ := C_pos h
    rw [addi_ap, subi_ap, bc0, firstV_ap hg hG, div512_ap _ j (a := P G (j.val + 1) - 1) ?_ (by omega)]
    · show Scalar.select (BitVec.ofBool (decide (0 < G j.val))) (_ + BitVec.ofNat 32 1) _ = _
      rw [ofNat32_sub hle, BitVec.ofNat_add_ofNat, ← hc, decide_eq_true h]; rfl
    · rw [subi_ap, bc0, cums_ap g G hg]
      exact ofNat32_sub (by omega)
  · rw [decide_eq_false h, C, if_neg h]; rfl

/-- Where each expert's visits end, as a word. -/
theorem vendV_ap (j : Fin 8) : vendV g (ix1 j) = BitVec.ofNat 32 (B G (j.val + 1)) :=
  cums_ap _ (C G) (cntV_ap hg hG) j

/-- The visit of each grid point, as a word. -/
theorem vxV_ap (p : Fin 151) : vxV g (ix1 p) = BitVec.ofNat 32 (vx G p.val) := by
  have h8 := B8_le hG
  have h1 := B8_pos hG
  have e : subi (shapeCast shape0 (extractStridedSlice (shape1 1) ![7] (vendV g) sl7) sc1) (constantI shape0 32 1#32) ix0
      = BitVec.ofNat 32 (B G 8 - 1) := by
    rw [subi_ap]
    have : shapeCast shape0 (extractStridedSlice (shape1 1) ![7] (vendV g) sl7) sc1 ix0 = BitVec.ofNat 32 (B G 8) := by
      rw [cast_one]
      rw [slice1 7 _ sl7 0 (by decide)]
      rw [vendV_ap hg hG]
      rfl
    rw [this]
    show BitVec.ofNat 32 (B G 8) - BitVec.ofNat 32 1 = _
    rw [ofNat32_sub h1]
  unfold vxV vxW
  show IntOp.minsi (iotaInDim (shape1 151) 32 0 (ix1 p)) _ = _
  rw [bc0, e, iota1_ap]
  unfold IntOp.minsi
  rw [slt_ofNat32 (by omega) (by omega)]
  unfold vx
  by_cases h : p.val < B G 8 - 1
  · rw [decide_eq_true h, if_pos rfl, min_eq_left h.le]
  · rw [decide_eq_false h, min_eq_right (by omega)]; rfl

/-- The expert of each grid point, as a word. -/
theorem veV_ap (p : Fin 151) : veV g (ix1 p) = BitVec.ofNat 32 (ve G p.val) := by
  unfold veV veW
  refine reduce_count (by decide) _ lt32 red h0 p (fun q => B G (q + 1) ≤ vx G p.val) fun q => ?_
  have hb : B G (q.val + 1) ≤ B G 8 := B_mono (by omega)
  have h8 := B8_le hG
  have hx := vx_lt hG p.val
  rw [cmpi_at, bcRows, bcCols, show vxW (vendV g) (ix1 p) = _ from vxV_ap hg hG p, vendV_ap hg hG]
  show BitVec.ofBool ((BitVec.ofNat 32 (B G (q.val + 1))).sle (BitVec.ofNat 32 (vx G p.val))) = 1#1 ↔ _
  rw [BitVec.sle_eq_not_slt, slt_ofNat32 (by omega) (by omega)]
  by_cases h : vx G p.val < B G (q.val + 1)
  · rw [decide_eq_true h]; simp; exact h
  · rw [decide_eq_false h]; simp; omega

/-- The tile of each grid point, as a word. -/
theorem vtV_ap (p : Fin 151) : vtV g (ix1 p) = BitVec.ofNat 32 (vt G p.val) := by
  obtain ⟨he, h1, _⟩ := ve_spec hG p.val
  have hv := veV_ap hg hG p
  have hx := vxV_ap hg hG p
  unfold veV at hv
  unfold vxV at hx
  unfold vtV vtW
  rw [subi_ap, addi_ap, takeV_ap _ _ p he hv, takeV_ap _ _ p he hv, firstV_ap hg hG, hx,
    subi_ap, vendV_ap hg hG, cntV_ap hg hG, B_succ, ofNat32_sub (by omega), Nat.add_sub_cancel, BitVec.ofNat_add_ofNat]
  exact ofNat32_sub (by show B G (ve G p.val) ≤ P G (ve G p.val) / 512 + vx G p.val; omega)

/-- The first owned row of each grid point's tile, as a word. -/
theorem vloV_ap (p : Fin 151) : vloV g (ix1 p) = BitVec.ofNat 32 (vlo G p.val) := by
  obtain ⟨he, h1, _⟩ := ve_spec hG p.val
  have hp := P_le hG (e := ve G p.val) (by omega)
  have ht := vt_lt hG p.val
  have hv := veV_ap hg hG p
  have htw := vtV_ap hg hG p
  unfold veV at hv
  unfold vtV at htw
  unfold vloV vloW
  show IntOp.maxsi _ _ = _
  rw [subi_ap, takeV_ap _ _ p he hv, startsV_ap hg hG, muli_ap, htw, bc0, bc0]
  show IntOp.maxsi (BitVec.ofNat 32 (P G (ve G p.val)) - BitVec.ofNat 32 (vt G p.val) * BitVec.ofNat 32 512) 0#32 = _
  rw [show BitVec.ofNat 32 (vt G p.val) * BitVec.ofNat 32 512 = BitVec.ofNat 32 (512 * vt G p.val) by
    rw [Nat.mul_comm, BitVec.ofNat_mul]]
  unfold vlo
  generalize P G (ve G p.val) = a at hp
  generalize vt G p.val = b at ht
  by_cases h : 512 * b ≤ a
  · rw [ofNat32_sub h]
    unfold IntOp.maxsi
    rw [show (0#32 : BitVec 32) = BitVec.ofNat 32 0 from rfl, slt_ofNat32 (by omega) (by omega)]
    by_cases h' : a - 512 * b < 0
    · omega
    · simp
      intro h''
      rw [show a - 512 * b = 0 by omega]
  · have e : (BitVec.ofNat 32 a - BitVec.ofNat 32 (512 * b)).toInt = (a : ℤ) - 512 * b := by
      rw [BitVec.toInt_sub, BitVec.toInt_eq_toNat_of_lt (by simp; omega), BitVec.toInt_eq_toNat_of_lt (by simp; omega)]
      simp only [BitVec.toNat_ofNat]
      rw [Nat.mod_eq_of_lt (by omega), Nat.mod_eq_of_lt (by omega), Int.bmod_def]
      omega
    have hs : (BitVec.ofNat 32 a - BitVec.ofNat 32 (512 * b)).slt 0#32 = true := by
      unfold BitVec.slt; rw [e]; simp; omega
    unfold IntOp.maxsi
    have : a - 512 * b = 0 := by omega
    rw [this]
    first
      | rw [hs]; rfl
      | (split
         · rename_i h''
           have : (0#32 : BitVec 32).slt (BitVec.ofNat 32 a - BitVec.ofNat 32 (512 * b)) = true := by simpa using h''
           unfold BitVec.slt at this; rw [e] at this; simp at this; omega
         · rfl)

end

end Cert.Tables
-- ==== Proof.Groups.lean ====
/- What the stated precondition says of the group sizes: they are eight naturals that add up to the number of tokens. -/
module

public import proofs.«01_k».proof.Proof.Tables
public import proofs.«01_k».proof.Proof.Gen.Pre_groups_cover
public import proofs.«01_k».proof.Pre_groups_cover
public import Idealize.ShloMosaic.Lib.ReduceAll
public import Idealize.ShloMosaic.Lib.WordArith

@[expose] public section

set_option maxRecDepth 16384

noncomputable section

namespace Cert.Tables

open Idealize.ShloMosaic Idealize.ShloMosaic.ValueIdx Idealize.ShloMosaic.WordCmp Idealize.ShloMosaic.Routing
open Cert.Sched

/-- Eight words reduce to one. -/
theorem red8 : (shape1 8).ReducesTo [0] shape0 := by decide

/-- Group sizes between 0 and 73728 whose word sum is 73728 are naturals whose sum is 73728: eight such words cannot wrap. -/
theorem groups_of (g : V8)
    (h5 : Host.reduce IntOp.andi (andi (cmpi .sge g (broadcastInDim (shape1 8) ![] b08 (constantI shape0 32 0#32)))
      (cmpi .sle g (broadcastInDim (shape1 8) ![] b08 (constantI shape0 32 73728#32)))) (constantI shape0 1 1#1) red8 h0 ix0 = 1#1)
    (h7 : cmpi .eq (Host.reduce IntOp.addi g (constantI shape0 32 0#32) red8 h0) (constantI shape0 32 73728#32) ix0 = 1#1) :
    ∃ G : ℕ → ℕ, (∀ i : Fin 8, g (ix1 i) = BitVec.ofNat 32 (G i.val)) ∧ P G 8 = 73728 := by
  have hle : ∀ i : Fin 8, (g (ix1 i)).toNat ≤ 73728 := by
    intro i
    haveI : Subsingleton shape0.Idx := ⟨fun a b => funext fun k => k.elim0⟩
    have h := Host.reduce_andi_all _ _ red8 h0 ix0 h5 (ix1 i)
    have h' : IntOp.andi (IntOp.cmpi .sge (g (ix1 i)) 0#32) (IntOp.cmpi .sle (g (ix1 i)) 73728#32) = 1#1 := h
    obtain ⟨h1, h2⟩ := IntOp.andi_eq_one.1 h'
    generalize g (ix1 i) = w at h1 h2
    have k1 : (0#32).sle w = true := by
      exact (ofBool_eq_one_iff _).1 h1
    have k2 : w.sle 73728#32 = true := by
      exact (ofBool_eq_one_iff _).1 h2
    rw [BitVec.sle_eq_decide, decide_eq_true_eq] at k1 k2
    have e0 : (0#32).toInt = 0 := by decide
    have e1 : (73728#32).toInt = 73728 := by decide
    rw [e0] at k1
    rw [e1] at k2
    rw [BitVec.toInt_eq_toNat_cond] at k1 k2
    have := w.isLt
    split at k1 <;> omega
  refine ⟨fun i => if h : i < 8 then (g (ix1 ⟨i, h⟩)).toNat else 0, ?_, ?_⟩
  · intro i
    simp only [i.isLt, dif_pos, Fin.eta, BitVec.ofNat_toNat, BitVec.setWidth_eq]
  · have hx : ∀ i : Fin 8, g (ix1 i) = BitVec.ofNat 32 ((fun i => if h : i < 8 then (g (ix1 ⟨i, h⟩)).toNat else 0) i.val) := by
      intro i
      simp only [i.isLt, dif_pos, Fin.eta, BitVec.ofNat_toNat, BitVec.setWidth_eq]
    have hs := reduce_sum g (fun i => if h : i < 8 then (g (ix1 ⟨i, h⟩)).toNat else 0) hx red8 h0
    have h7' : IntOp.cmpi .eq (Host.reduce IntOp.addi g (constantI shape0 32 0#32) red8 h0 ix0) 73728#32 = 1#1 := h7
    rw [hs, cmpi_eq_eq] at h7'
    have hb : P (fun i => if h : i < 8 then (g (ix1 ⟨i, h⟩)).toNat else 0) 8 ≤ 8 * 73728 := by
      have l0 := hle 0; have l1 := hle 1; have l2 := hle 2; have l3 := hle 3
      have l4 := hle 4; have l5 := hle 5; have l6 := hle 6; have l7 := hle 7
      simp only [P_succ, P_zero]
      simp only [show (0:ℕ) < 8 by omega, show (1:ℕ) < 8 by omega, show (2:ℕ) < 8 by omega, show (3:ℕ) < 8 by omega, show (4:ℕ) < 8 by omega,
        show (5:ℕ) < 8 by omega, show (6:ℕ) < 8 by omega, show (7:ℕ) < 8 by omega, dif_pos]
      have f : ∀ k (h : k < 8), (g (ix1 ⟨k, h⟩)).toNat ≤ 73728 := fun k h => hle ⟨k, h⟩
      have := f 0 (by omega); have := f 1 (by omega); have := f 2 (by omega); have := f 3 (by omega)
      have := f 4 (by omega); have := f 5 (by omega); have := f 6 (by omega); have := f 7 (by omega)
      omega
    have ht : (BitVec.ofNat 32 (P (fun i => if h : i < 8 then (g (ix1 ⟨i, h⟩)).toNat else 0) 8)) = 73728#32 := by
      by_contra hne
      rw [show ((List.range 8).map fun i => if h : i < 8 then (g (ix1 ⟨i, h⟩)).toNat else 0).sum = P (fun i => if h : i < 8 then (g (ix1 ⟨i, h⟩)).toNat else 0) 8 from rfl] at h7'
      exact hne (of_decide_eq_true ((ofBool_eq_one_iff _).1 h7'))
    have := congrArg BitVec.toNat ht
    rw [BitVec.toNat_ofNat, BitVec.toNat_ofNat] at this
    omega

/-- The first precondition: the group sizes are naturals that add up to the number of tokens. -/
theorem groups_of_cover {F : FTy → Type} [FloatOps F] [Cert.Pre_groups_cover.Facts] (x0 : FVec F Cert.Pre_groups_cover.S73728x3072 .bf16) (g : IVec Cert.Pre_groups_cover.S8 32)
    (x2 : IVec Cert.Pre_groups_cover.S8x1024x1536 8) (x3 : FVec F Cert.Pre_groups_cover.S8x1024x96 .f32)
    (h : Cert.Pre_groups_cover.fn (F := F) x0 g x2 x3 = fun _ => 1#1) :
    ∃ G : ℕ → ℕ, (∀ i : Fin 8, (g : V8) (ix1 i) = BitVec.ofNat 32 (G i.val)) ∧ P G 8 = 73728 := by
  have h1 := congrFun h ix0
  obtain ⟨h5, h7⟩ := IntOp.andi_eq_one.1 h1
  exact groups_of g h5 h7

end Cert.Tables
-- ==== Proof.KIKit.lean ====
/- What the value and frame arguments of the kernel share: the memory the region finds, the three tables as the body is
   handed them, each window's block at a grid point, and the staging and scratch buffers. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_dgrad (grid0.coords t) (Memref.whole main_v42) (Memref.isWhole_whole _) (Memref.whole main_v25) (Memref.isWhole_whole _) (Memref.whole main_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S151 .i32 := Memref.whole main_v42
abbrev htbM0_0 : tbM0_0.IsWhole := Memref.isWhole_whole _
abbrev tbM0_1 : Memref sig .tc .smem S151 .i32 := Memref.whole main_v25
abbrev htbM0_1 : tbM0_1.IsWhole := Memref.isWhole_whole _
abbrev tbM0_2 : Memref sig .tc .smem S151 .i32 := Memref.whole main_v54
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The body's branch conditions -/

/-- The condition of the body's `scf.if` 0: over WORDS the body reads from its tables or input SMEM windows
    (`v1`, `v5`), so no function of the point — a case variable: a hypothesis of each run, a `by_cases`
    of the obligation and an `if` of `outsAt`, stated over the argument blocks' words there. -/
abbrev cond0_0 (i : grid0.Coords) (v1 : BitVec 32) (v5 : BitVec 32) : Prop := (Scalar.cmpi .ne (Scalar.extui (Scalar.ori (Scalar.cmpi .eq (BitVec.ofNat 32 (i 0).val) 0#32) (Scalar.cmpi .ne v1 v5))) 0#32) = 1#1

/-- The condition of the body's `scf.if` 1: over WORDS the body reads from its tables or input SMEM windows
    (`v12`), so no function of the point — a case variable: a hypothesis of each run, a `by_cases`
    of the obligation and an `if` of `outsAt`, stated over the argument blocks' words there. -/
abbrev cond0_1 (i : grid0.Coords) (v12 : BitVec 32) : Prop := (Scalar.cmpi .ne (Scalar.extui (Scalar.cmpi .sgt v12 0#32)) 0#32) = 1#1

/-- The condition of the body's `scf.if` 2: over WORDS the body reads from its tables or input SMEM windows
    (`v12`), so no function of the point — a case variable: a hypothesis of each run, a `by_cases`
    of the obligation and an `if` of `outsAt`, stated over the argument blocks' words there. -/
abbrev cond0_2 (i : grid0.Coords) (v12 : BitVec 32) : Prop := (Scalar.cmpi .ne (Scalar.extui (Scalar.cmpi .sgt v12 0#32)) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x3072 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536x1024 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x96x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S3072x1024 .fp8e5m2 := Memref.whole cc0_scratch0
abbrev scM0_1 : Memref sig .tc .vmem S512x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Kit

end
-- ==== Proof.KIHost.lean ====
/- What the host leaves in the buffers the region reads, as functions of the arguments: the three tables, and the weights
   and scales transposed. The host's operations come in nine groups; each group is read over whatever the groups before it
   left. -/
module

public import proofs.«01_k».proof.Proof.KIKit
public import proofs.«01_k».proof.Proof.Tables
public import Idealize.ShloMosaic.Lib.StableHlo.ReadAt

@[expose] public section

set_option maxRecDepth 16384

noncomputable section

namespace Cert.KernelIdeal.Kit

open Cert.KernelIdeal.Gen Cert.Tables
open Idealize.ShloMosaic Idealize.ShloMosaic.TcCoe Idealize.ShloMosaic.Tactic Idealize.ShloMosaic.StableHlo

variable {F : FTy → Type} [FloatOps F]

section Groups
variable (W : (b : DevRef τ sig) → b.ty.Contents (Elt F))

/-- The running sums of the group sizes. -/
theorem g0 : after hostOps0 W (Proc.devRef .tc main_v0) = cums (W (Proc.devRef .tc main_arg1)) := by
  after_reads_simp
  simp -implicitDefEqProofs only [StableHlo.TRef.toBuf, StableHlo.TRef.ofBuf, cast_cast, cast_eq]
  rfl
/-- Each expert's first row. -/
theorem g1 : after hostOps0_1 W (Proc.devRef .tc main_v1) = subi (W (Proc.devRef .tc main_v0) : V8) (W (Proc.devRef .tc main_arg1)) := by
  after_reads_simp
theorem g1c : after hostOps0_1 W (Proc.devRef .tc main_c) = constantI Routing.shape0 32 512#32 := by
  after_reads_simp
/-- Each expert's first tile. -/
theorem g2 : after hostOps0_2 W (Proc.devRef .tc main_v2) = Routing.pyDiv b08 (W (Proc.devRef .tc main_v1) : V8) (W (Proc.devRef .tc main_c)) := by
  after_reads_simp
  simp -implicitDefEqProofs only [StableHlo.TRef.toBuf, StableHlo.TRef.ofBuf, cast_cast, cast_eq]
  rfl
theorem g3_4 : after hostOps0_3 W (Proc.devRef .tc main_v4) = cmpi .sgt (W (Proc.devRef .tc main_arg1) : V8) (broadcastInDim (Routing.shape1 8) ![] b08 (constantI Routing.shape0 32 0#32)) := by
  after_reads_simp
theorem g3_6 : after hostOps0_3 W (Proc.devRef .tc main_v6) = subi (W (Proc.devRef .tc main_v0) : V8) (broadcastInDim (Routing.shape1 8) ![] b08 (constantI Routing.shape0 32 1#32)) := by
  after_reads_simp
theorem g3_c : after hostOps0_3 W (Proc.devRef .tc main_c_2) = constantI Routing.shape0 32 512#32 := by
  after_reads_simp
theorem g4 : after hostOps0_4 W (Proc.devRef .tc main_v7) = Routing.pyDiv b08 (W (Proc.devRef .tc main_v6) : V8) (W (Proc.devRef .tc main_c_2)) := by
  after_reads_simp
  simp -implicitDefEqProofs only [StableHlo.TRef.toBuf, StableHlo.TRef.ofBuf, cast_cast, cast_eq]
  rfl
theorem g5 : after hostOps0_5 W (Proc.devRef .tc main_v10) = addi (subi (W (Proc.devRef .tc main_v7) : V8) (W (Proc.devRef .tc main_v2))) (broadcastInDim (Routing.shape1 8) ![] b08 (constantI Routing.shape0 32 1#32)) := by
  after_reads_simp
theorem g5_c : after hostOps0_5 W (Proc.devRef .tc main_c_4) = constantI Routing.shape0 32 0#32 := by
  after_reads_simp
theorem g6 : after hostOps0_6 W (Proc.devRef .tc main_v11) = select (W (Proc.devRef .tc main_v4) : IVec (Routing.shape1 8) 1) (W (Proc.devRef .tc main_v10) : V8) (broadcastInDim (Routing.shape1 8) ![] b08 (W (Proc.devRef .tc main_c_4) : V0)) := by
  after_reads_simp
  simp -implicitDefEqProofs only [StableHlo.TRef.toBuf, StableHlo.TRef.ofBuf, cast_cast, cast_eq]
  rfl
theorem g7 : after hostOps0_7 W (Proc.devRef .tc main_v12) = cums (W (Proc.devRef .tc main_v11)) := by
  after_reads_simp
  simp -implicitDefEqProofs only [StableHlo.TRef.toBuf, StableHlo.TRef.ofBuf, cast_cast, cast_eq]
  rfl
theorem g8_18 : after hostOps0_8 W (Proc.devRef .tc main_v18) = vxW (W (Proc.devRef .tc main_v12)) := by
  after_reads_simp
  rfl
theorem g8_25 : after hostOps0_8 W (Proc.devRef .tc main_v25) = veW (W (Proc.devRef .tc main_v12)) := by
  after_reads_simp
  rfl
theorem g8_42 : after hostOps0_8 W (Proc.devRef .tc main_v42) = vtW (W (Proc.devRef .tc main_v2)) (W (Proc.devRef .tc main_v12)) (W (Proc.devRef .tc main_v11)) := by
  after_reads_simp
  rfl
theorem g8_54 : after hostOps0_8 W (Proc.devRef .tc main_v54) = vloW (W (Proc.devRef .tc main_v1)) (W (Proc.devRef .tc main_v2)) (W (Proc.devRef .tc main_v12)) (W (Proc.devRef .tc main_v11)) := by
  after_reads_simp
  rfl
theorem g8_55 : after hostOps0_8 W (Proc.devRef .tc main_v55) = transpose S8x1536x1024 [0, 2, 1] (W (Proc.devRef .tc main_arg2)) transposes_S8x1024x1536_S8x1536x1024_0_2_1 := by
  after_reads_simp
theorem g8_56 : after hostOps0_8 W (Proc.devRef .tc main_v56) = transpose S8x96x1024 [0, 2, 1] (W (Proc.devRef .tc main_arg3)) transposes_S8x1024x96_S8x96x1024_0_2_1 := by
  after_reads_simp
/-- Group 0 does not write `main_arg1`. -/
theorem u0_arg1 : after hostOps0 W (Proc.devRef .tc main_arg1) = W (Proc.devRef .tc main_arg1) := by
  after_reads_simp
/-- Group 0 does not write `main_arg2`. -/
theorem u0_arg2 : after hostOps0 W (Proc.devRef .tc main_arg2) = W (Proc.devRef .tc main_arg2) := by
  after_reads_simp
/-- Group 0 does not write `main_arg3`. -/
theorem u0_arg3 : after hostOps0 W (Proc.devRef .tc main_arg3) = W (Proc.devRef .tc main_arg3) := by
  after_reads_simp
/-- Group 1 does not write `main_arg1`. -/
theorem u1_arg1 : after hostOps0_1 W (Proc.devRef .tc main_arg1) = W (Proc.devRef .tc main_arg1) := by
  after_reads_simp
/-- Group 1 does not write `main_arg2`. -/
theorem u1_arg2 : after hostOps0_1 W (Proc.devRef .tc main_arg2) = W (Proc.devRef .tc main_arg2) := by
  after_reads_simp
/-- Group 1 does not write `main_arg3`. -/
theorem u1_arg3 : after hostOps0_1 W (Proc.devRef .tc main_arg3) = W (Proc.devRef .tc main_arg3) := by
  after_reads_simp
/-- Group 1 does not write `main_v0`. -/
theorem u1_v0 : after hostOps0_1 W (Proc.devRef .tc main_v0) = W (Proc.devRef .tc main_v0) := by
  after_reads_simp
/-- Group 2 does not write `main_arg1`. -/
theorem u2_arg1 : after hostOps0_2 W (Proc.devRef .tc main_arg1) = W (Proc.devRef .tc main_arg1) := by
  after_reads_simp
/-- Group 2 does not write `main_arg2`. -/
theorem u2_arg2 : after hostOps0_2 W (Proc.devRef .tc main_arg2) = W (Proc.devRef .tc main_arg2) := by
  after_reads_simp
/-- Group 2 does not write `main_arg3`. -/
theorem u2_arg3 : after hostOps0_2 W (Proc.devRef .tc main_arg3) = W (Proc.devRef .tc main_arg3) := by
  after_reads_simp
/-- Group 2 does not write `main_v0`. -/
theorem u2_v0 : after hostOps0_2 W (Proc.devRef .tc main_v0) = W (Proc.devRef .tc main_v0) := by
  after_reads_simp
/-- Group 2 does not write `main_v1`. -/
theorem u2_v1 : after hostOps0_2 W (Proc.devRef .tc main_v1) = W (Proc.devRef .tc main_v1) := by
  after_reads_simp
/-- Group 3 does not write `main_arg1`. -/
theorem u3_arg1 : after hostOps0_3 W (Proc.devRef .tc main_arg1) = W (Proc.devRef .tc main_arg1) := by
  after_reads_simp
/-- Group 3 does not write `main_arg2`. -/
theorem u3_arg2 : after hostOps0_3 W (Proc.devRef .tc main_arg2) = W (Proc.devRef .tc main_arg2) := by
  after_reads_simp
/-- Group 3 does not write `main_arg3`. -/
theorem u3_arg3 : after hostOps0_3 W (Proc.devRef .tc main_arg3) = W (Proc.devRef .tc main_arg3) := by
  after_reads_simp
/-- Group 3 does not write `main_v1`. -/
theorem u3_v1 : after hostOps0_3 W (Proc.devRef .tc main_v1) = W (Proc.devRef .tc main_v1) := by
  after_reads_simp
/-- Group 3 does not write `main_v2`. -/
theorem u3_v2 : after hostOps0_3 W (Proc.devRef .tc main_v2) = W (Proc.devRef .tc main_v2) := by
  after_reads_simp
/-- Group 4 does not write `main_arg1`. -/
theorem u4_arg1 : after hostOps0_4 W (Proc.devRef .tc main_arg1) = W (Proc.devRef .tc main_arg1) := by
  after_reads_simp
/-- Group 4 does not write `main_arg2`. -/
theorem u4_arg2 : after hostOps0_4 W (Proc.devRef .tc main_arg2) = W (Proc.devRef .tc main_arg2) := by
  after_reads_simp
/-- Group 4 does not write `main_arg3`. -/
theorem u4_arg3 : after hostOps0_4 W (Proc.devRef .tc main_arg3) = W (Proc.devRef .tc main_arg3) := by
  after_reads_simp
/-- Group 4 does not write `main_v1`. -/
theorem u4_v1 : after hostOps0_4 W (Proc.devRef .tc main_v1) = W (Proc.devRef .tc main_v1) := by
  after_reads_simp
/-- Group 4 does not write `main_v2`. -/
theorem u4_v2 : after hostOps0_4 W (Proc.devRef .tc main_v2) = W (Proc.devRef .tc main_v2) := by
  after_reads_simp
/-- Group 4 does not write `main_v4`. -/
theorem u4_v4 : after hostOps0_4 W (Proc.devRef .tc main_v4) = W (Proc.devRef .tc main_v4) := by
  after_reads_simp
/-- Group 5 does not write `main_arg2`. -/
theorem u5_arg2 : after hostOps0_5 W (Proc.devRef .tc main_arg2) = W (Proc.devRef .tc main_arg2) := by
  after_reads_simp
/-- Group 5 does not write `main_arg3`. -/
theorem u5_arg3 : after hostOps0_5 W (Proc.devRef .tc main_arg3) = W (Proc.devRef .tc main_arg3) := by
  after_reads_simp
/-- Group 5 does not write `main_v1`. -/
theorem u5_v1 : after hostOps0_5 W (Proc.devRef .tc main_v1) = W (Proc.devRef .tc main_v1) := by
  after_reads_simp
/-- Group 5 does not write `main_v2`. -/
theorem u5_v2 : after hostOps0_5 W (Proc.devRef .tc main_v2) = W (Proc.devRef .tc main_v2) := by
  after_reads_simp
/-- Group 5 does not write `main_v4`. -/
theorem u5_v4 : after hostOps0_5 W (Proc.devRef .tc main_v4) = W (Proc.devRef .tc main_v4) := by
  after_reads_simp
/-- Group 6 does not write `main_arg2`. -/
theorem u6_arg2 : after hostOps0_6 W (Proc.devRef .tc main_arg2) = W (Proc.devRef .tc main_arg2) := by
  after_reads_simp
/-- Group 6 does not write `main_arg3`. -/
theorem u6_arg3 : after hostOps0_6 W (Proc.devRef .tc main_arg3) = W (Proc.devRef .tc main_arg3) := by
  after_reads_simp
/-- Group 6 does not write `main_v1`. -/
theorem u6_v1 : after hostOps0_6 W (Proc.devRef .tc main_v1) = W (Proc.devRef .tc main_v1) := by
  after_reads_simp
/-- Group 6 does not write `main_v2`. -/
theorem u6_v2 : after hostOps0_6 W (Proc.devRef .tc main_v2) = W (Proc.devRef .tc main_v2) := by
  after_reads_simp
/-- Group 7 does not write `main_arg2`. -/
theorem u7_arg2 : after hostOps0_7 W (Proc.devRef .tc main_arg2) = W (Proc.devRef .tc main_arg2) := by
  after_reads_simp
/-- Group 7 does not write `main_arg3`. -/
theorem u7_arg3 : after hostOps0_7 W (Proc.devRef .tc main_arg3) = W (Proc.devRef .tc main_arg3) := by
  after_reads_simp
/-- Group 7 does not write `main_v1`. -/
theorem u7_v1 : after hostOps0_7 W (Proc.devRef .tc main_v1) = W (Proc.devRef .tc main_v1) := by
  after_reads_simp
/-- Group 7 does not write `main_v2`. -/
theorem u7_v2 : after hostOps0_7 W (Proc.devRef .tc main_v2) = W (Proc.devRef .tc main_v2) := by
  after_reads_simp
/-- Group 7 does not write `main_v11`. -/
theorem u7_v11 : after hostOps0_7 W (Proc.devRef .tc main_v11) = W (Proc.devRef .tc main_v11) := by
  after_reads_simp
end Groups

variable (m : (ℓ : Loc nD τ sig) → Buf (Elt F) ℓ)

/-- The memory the region finds, group by group. -/
theorem V_split (c : Dev nD) (b : Ref sig .tc) :
    V m c b = after hostOps0_8 (after hostOps0_7 (after hostOps0_6 (after hostOps0_5 (after hostOps0_4 (after hostOps0_3 (after hostOps0_2
      (after hostOps0_1 (after hostOps0 fun b => m (c, b))))))))) (Proc.devRef .tc b) := by
  have app : ∀ (l₁ l₂ : List (HloOp τ sig (Elt F))) (W : (b : DevRef τ sig) → b.ty.Contents (Elt F)), after (l₁ ++ l₂) W = after l₂ (after l₁ W) := by
    intro l₁
    induction l₁ with
    | nil => intro l₂ W; rfl
    | cons op l ih => intro l₂ W; exact ih l₂ _
  unfold V
  rw [List.flatten_cons, List.flatten_cons, List.flatten_cons, List.flatten_cons, List.flatten_cons, List.flatten_cons, List.flatten_cons,
    List.flatten_cons, List.flatten_cons, List.flatten_nil, List.append_nil]
  simp only [app]

/-- The group sizes as launched. -/
abbrev gsz (c : Dev nD) : V8 := m ((c : Thread nD τ).loc main_arg1)

/-- The table of experts. -/
theorem V_v25 (c : Dev nD) : V m c main_v25 = veV (gsz m c) := by
  rw [V_split, g8_25, g7, g6, g5, g5_c, u5_v4, g4, u4_v2, u4_v4, g3_4, g3_6, g3_c, u3_v2, g2, u2_arg1, u2_v0, g1, g1c, u1_v0, u1_arg1, g0, u0_arg1]
  rfl

/-- The table of tiles. -/
theorem V_v42 (c : Dev nD) : V m c main_v42 = vtV (gsz m c) := by
  rw [V_split, g8_42, g7, u7_v2, u7_v11, g6, u6_v2, g5, g5_c, u5_v2, u5_v4, g4, u4_v2, u4_v4, g3_4, g3_6, g3_c, u3_v2, g2, u2_arg1, u2_v0, g1, g1c, u1_v0, u1_arg1, g0, u0_arg1]
  rfl

/-- The table of first owned rows. -/
theorem V_v54 (c : Dev nD) : V m c main_v54 = vloV (gsz m c) := by
  rw [V_split, g8_54, g7, u7_v1, u7_v2, u7_v11, g6, u6_v1, u6_v2, g5, g5_c, u5_v1, u5_v2, u5_v4, g4, u4_v1, u4_v2, u4_v4, g3_4, g3_6, g3_c, u3_v1, u3_v2, g2, u2_arg1, u2_v0, u2_v1, g1, g1c, u1_v0, u1_arg1, g0, u0_arg1]
  rfl

/-- The weights with the contracted axis first. -/
theorem V_v55 (c : Dev nD) : V m c main_v55 = transpose S8x1536x1024 [0, 2, 1] (m ((c : Thread nD τ).loc main_arg2)) transposes_S8x1024x1536_S8x1536x1024_0_2_1 := by
  rw [V_split, g8_55, u7_arg2, u6_arg2, u5_arg2, u4_arg2, u3_arg2, u2_arg2, u1_arg2, u0_arg2]

/-- The scales with the contracted axis first. -/
theorem V_v56 (c : Dev nD) : V m c main_v56 = transpose S8x96x1024 [0, 2, 1] (m ((c : Thread nD τ).loc main_arg3)) transposes_S8x1024x96_S8x96x1024_0_2_1 := by
  rw [V_split, g8_56, u7_arg3, u6_arg3, u5_arg3, u4_arg3, u3_arg3, u2_arg3, u1_arg3, u0_arg3]

end Cert.KernelIdeal.Kit
-- ==== Proof.KIRun.lean ====
/- The kernel body run once at any grid point: which contents it leaves in the output block and in the decoded weights,
   in each of the four cases of its two conditions. -/
module

public import proofs.«01_k».proof.Proof.KIKit
public import Idealize.ShloMosaic.Lib.Pipeline.Value
public import Idealize.ShloMosaic.Lib.WholeRead
public import Idealize.ShloMosaic.Lib.VecWindow

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the experts' table at the point of `i`. -/
abbrev wdE (c : Dev nD) (i : grid0.Coords) (xt1 : TbBuf0 (F := F) c tbM0_1) : BitVec 32 :=
  tbM0_1.view.readAt (Elt F) (Rect.unit (s := S151) (k0_off1 i) S1.size (k0_off1_inb i)).toLoadRect xt1 (Shape.Idx.first (numel1_S1.symm ▸ Nat.one_pos))
/-- The word of the experts' table at the point before that of `i` (at the first point, at that point). -/
abbrev wdEp (c : Dev nD) (i : grid0.Coords) (xt1 : TbBuf0 (F := F) c tbM0_1) : BitVec 32 :=
  tbM0_1.view.readAt (Elt F) (Rect.unit (s := S151) (k0_off2 i) S1.size (k0_off2_inb i)).toLoadRect xt1 (Shape.Idx.first (numel1_S1.symm ▸ Nat.one_pos))
/-- The word of the first-row table at the point of `i`. -/
abbrev wdL (c : Dev nD) (i : grid0.Coords) (xt2 : TbBuf0 (F := F) c tbM0_2) : BitVec 32 :=
  tbM0_2.view.readAt (Elt F) (Rect.unit (s := S151) (k0_off3 i) S1.size (k0_off3_inb i)).toLoadRect xt2 (Shape.Idx.first (numel1_S1.symm ▸ Nat.one_pos))

/-- The output block computed from a token block and the decoded weights. -/
def freshOut (x0 : Vec F S512x3072 .bf16) (w : Vec F S3072x1024 .fp8e5m2) : Vec F S512x1024 .bf16 :=
  k0_pay1 (k0_pay5 x0) (k0_pay6 x0) (k0_pay7 x0) w

/-- The output block with its first `lo` rows taken from what was there before. -/
def mergeOut (lo : BitVec 32) (x0 : Vec F S512x3072 .bf16) (w : Vec F S3072x1024 .fp8e5m2) (y : Vec F S512x1024 .bf16) :
    Vec F S512x1024 .bf16 :=
  k0_pay2 (F := F) lo (k0_pay4 y) (freshOut x0 w)

/-- A load of a whole buffer through the rectangle of its own sizes reads what it holds. -/
theorem ld_whole {sp : Space} {s : Shape} {e : EltTy} {arg : Memref sig .tc sp s e} (h : arg.IsWhole) (X : s.Idx → Elt F e)
    {off : Fin s.rank → ℕ} (inb : ∀ a, off a + s.size a ≤ s.size a) :
    arg.view.readAt (Elt F) (Rect.unit off s.size inb).toLoadRect (h.unread X) = X := by
  rw [View.readAt_full, h.read_unread]

theorem ld_S512x3072 {arg : Memref sig .tc .vmem S512x3072 .bf16} (h : arg.IsWhole) (X : S512x3072.Idx → Elt F .bf16) :
    arg.view.readAt (Elt F) (Rect.unit (s := S512x3072) ![0, 0] ![512, 3072] inb_S512x3072_S512x3072_0_0).toLoadRect (h.unread X) = X := ld_whole h X _
theorem ld_S1x1536x1024 {arg : Memref sig .tc .vmem S1x1536x1024 .i8} (h : arg.IsWhole) (X : S1x1536x1024.Idx → Elt F .i8) :
    arg.view.readAt (Elt F) (Rect.unit (s := S1x1536x1024) ![0, 0, 0] ![1, 1536, 1024] inb_S1x1536x1024_S1x1536x1024_0_0_0).toLoadRect (h.unread X) = X := ld_whole h X _
theorem ld_S1x96x1024 {arg : Memref sig .tc .vmem S1x96x1024 .f32} (h : arg.IsWhole) (X : S1x96x1024.Idx → Elt F .f32) :
    arg.view.readAt (Elt F) (Rect.unit (s := S1x96x1024) ![0, 0, 0] ![1, 96, 1024] inb_S1x96x1024_S1x96x1024_0_0_0).toLoadRect (h.unread X) = X := ld_whole h X _
theorem ld_S3072x1024 {arg : Memref sig .tc .vmem S3072x1024 .fp8e5m2} (h : arg.IsWhole) (X : S3072x1024.Idx → Elt F .fp8e5m2) :
    arg.view.readAt (Elt F) (Rect.unit (s := S3072x1024) ![0, 0] ![3072, 1024] inb_S3072x1024_S3072x1024_0_0).toLoadRect (h.unread X) = X := ld_whole h X _
theorem cov_S3072x1024 (v : View sig .tc .vmem S3072x1024 .fp8e5m2) (w : S3072x1024.Idx → Elt F .fp8e5m2) (L : List (View.Piece (Elt F) S3072x1024 .fp8e5m2)) :
    v.readCov ((⟨(Rect.unit (s := S3072x1024) ![0, 0] ![3072, 1024] inb_S3072x1024_S3072x1024_0_0), w⟩ : View.Piece (Elt F) S3072x1024 .fp8e5m2) :: L) (Rect.unit (s := S3072x1024) ![0, 0] ![3072, 1024] inb_S3072x1024_S3072x1024_0_0).toLoadRect = w := View.readCov_full v _ _ w L
theorem wr_S3072x1024 (v : View sig .tc .vmem S3072x1024 .fp8e5m2) (f : v.ty.Contents (Elt F)) (w : S3072x1024.Idx → Elt F .fp8e5m2) (L : List (View.Piece (Elt F) S3072x1024 .fp8e5m2)) :
    v.read (Elt F) (v.writes (Elt F) f ((⟨(Rect.unit (s := S3072x1024) ![0, 0] ![3072, 1024] inb_S3072x1024_S3072x1024_0_0), w⟩ : View.Piece (Elt F) S3072x1024 .fp8e5m2) :: L)) = w := View.read_writes_full v f _ w L
theorem ld_S512x1024 {arg : Memref sig .tc .vmem S512x1024 .bf16} (h : arg.IsWhole) (X : S512x1024.Idx → Elt F .bf16) :
    arg.view.readAt (Elt F) (Rect.unit (s := S512x1024) ![0, 0] ![512, 1024] inb_S512x1024_S512x1024_0_0).toLoadRect (h.unread X) = X := ld_whole h X _
theorem cov_S512x1024 (v : View sig .tc .vmem S512x1024 .bf16) (w : S512x1024.Idx → Elt F .bf16) (L : List (View.Piece (Elt F) S512x1024 .bf16)) :
    v.readCov ((⟨(Rect.unit (s := S512x1024) ![0, 0] ![512, 1024] inb_S512x1024_S512x1024_0_0), w⟩ : View.Piece (Elt F) S512x1024 .bf16) :: L) (Rect.unit (s := S512x1024) ![0, 0] ![512, 1024] inb_S512x1024_S512x1024_0_0).toLoadRect = w := View.readCov_full v _ _ w L
theorem wr_S512x1024 (v : View sig .tc .vmem S512x1024 .bf16) (f : v.ty.Contents (Elt F)) (w : S512x1024.Idx → Elt F .bf16) (L : List (View.Piece (Elt F) S512x1024 .bf16)) :
    v.read (Elt F) (v.writes (Elt F) f ((⟨(Rect.unit (s := S512x1024) ![0, 0] ![512, 1024] inb_S512x1024_S512x1024_0_0), w⟩ : View.Piece (Elt F) S512x1024 .bf16) :: L)) = w := View.read_writes_full v f _ w L

set_option maxHeartbeats 1000000 in
/-- The body where the weights are decoded afresh and the block is merged with what it held. -/
theorem run_TT (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (xt0 : TbBuf0 (F := F) c tbM0_0) (xt1 : TbBuf0 (F := F) c tbM0_1) (xt2 : TbBuf0 (F := F) c tbM0_2)
    (hc0 : cond0_0 i (wdE c i xt1) (wdEp c i xt1)) (hc1 : cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (mergeOut (wdL c i xt2) x0 (k0_pay3 x1 x2) y) ∗ owns (c : Thread nD τ) arg8 fullShare (k0_pay3 x1 x2) ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold mergeOut freshOut
    try unfold run_TT.sl.H3_2
    try unfold run_TT.sl.H3_1
    try unfold run_TT.sl.v75
    try unfold run_TT.sl.v77
    try unfold run_TT.sl.H3_1
    try unfold run_TT.sl.v77
    try unfold run_TT.sl.v82
    try unfold run_TT.sl.v68
    try unfold run_TT.sl.HS1_1
    try unfold run_TT.sl.r_2
    try unfold run_TT.sl.r_3
    try unfold run_TT.sl.r_4
    try unfold run_TT.sl.r_5
    try unfold run_TT.sl.v63
    try unfold run_TT.sl.HS0_1
    try unfold run_TT.sl.v72
    try unfold run_TT.sl.v88
    try unfold run_TT.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    try unfold run_TT.sl.HS0_1
    try unfold run_TT.sl.v72
    try unfold run_TT.sl.v88
    simp only [ld_S512x3072, ld_S1x1536x1024, ld_S1x96x1024, ld_S3072x1024, cov_S3072x1024, wr_S3072x1024, ld_S512x1024, cov_S512x1024, wr_S512x1024]
  isplitl [HS1]
  · iexists _, _; isplitr; swap; · iexact HS1
    ipureintro; rfl
  isplitl [HT0]; · iexact HT0
  isplitl [HT1]; · iexact HT1
  iexact HT2

set_option maxHeartbeats 1000000 in
/-- The body where the weights are decoded afresh and the block is written whole. -/
theorem run_TF (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (xt0 : TbBuf0 (F := F) c tbM0_0) (xt1 : TbBuf0 (F := F) c tbM0_1) (xt2 : TbBuf0 (F := F) c tbM0_2)
    (hc0 : cond0_0 i (wdE c i xt1) (wdEp c i xt1)) (hc1 : ¬ cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (freshOut x0 (k0_pay3 x1 x2)) ∗ owns (c : Thread nD τ) arg8 fullShare (k0_pay3 x1 x2) ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold freshOut
    try unfold run_TF.sl.H3_2
    try unfold run_TF.sl.H3_1
    try unfold run_TF.sl.v75
    try unfold run_TF.sl.v77
    try unfold run_TF.sl.H3_1
    try unfold run_TF.sl.v77
    try unfold run_TF.sl.v82
    try unfold run_TF.sl.v68
    try unfold run_TF.sl.HS1_1
    try unfold run_TF.sl.r_2
    try unfold run_TF.sl.r_3
    try unfold run_TF.sl.r_4
    try unfold run_TF.sl.r_5
    try unfold run_TF.sl.v63
    try unfold run_TF.sl.HS0_1
    try unfold run_TF.sl.v72
    try unfold run_TF.sl.v88
    try unfold run_TF.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    try unfold run_TF.sl.HS0_1
    try unfold run_TF.sl.v72
    try unfold run_TF.sl.v88
    simp only [ld_S512x3072, ld_S1x1536x1024, ld_S1x96x1024, ld_S3072x1024, cov_S3072x1024, wr_S3072x1024, ld_S512x1024, cov_S512x1024, wr_S512x1024]
  isplitl [HS1]
  · iexists _, _; isplitr; swap; · iexact HS1
    ipureintro; rfl
  isplitl [HT0]; · iexact HT0
  isplitl [HT1]; · iexact HT1
  iexact HT2

set_option maxHeartbeats 1000000 in
/-- The body where the weights are those decoded before and the block is merged with what it held. -/
theorem run_FT (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (w : Vec F S3072x1024 .fp8e5m2) (xt0 : TbBuf0 (F := F) c tbM0_0) (xt1 : TbBuf0 (F := F) c tbM0_1) (xt2 : TbBuf0 (F := F) c tbM0_2)
    (hc0 : ¬ cond0_0 i (wdE c i xt1) (wdEp c i xt1)) (hc1 : cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ owns (c : Thread nD τ) arg8 fullShare w ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (mergeOut (wdL c i xt2) x0 w y) ∗ owns (c : Thread nD τ) arg8 fullShare w ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  obtain rfl := harg8.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold mergeOut freshOut
    try unfold run_FT.sl.H3_2
    try unfold run_FT.sl.H3_1
    try unfold run_FT.sl.v75
    try unfold run_FT.sl.v77
    try unfold run_FT.sl.H3_1
    try unfold run_FT.sl.v77
    try unfold run_FT.sl.v82
    try unfold run_FT.sl.v68
    try unfold run_FT.sl.HS1_1
    try unfold run_FT.sl.r_2
    try unfold run_FT.sl.r_3
    try unfold run_FT.sl.r_4
    try unfold run_FT.sl.r_5
    try unfold run_FT.sl.v63
    try unfold run_FT.sl.HS0_1
    try unfold run_FT.sl.v72
    try unfold run_FT.sl.v88
    try unfold run_FT.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    exact harg8.read_unread _
  isplitl [HS1]
  · iexists _, _; isplitr; swap; · iexact HS1
    ipureintro; rfl
  isplitl [HT0]; · iexact HT0
  isplitl [HT1]; · iexact HT1
  iexact HT2

set_option maxHeartbeats 1000000 in
/-- The body where the weights are those decoded before and the block is written whole. -/
theorem run_FF (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (w : Vec F S3072x1024 .fp8e5m2) (xt0 : TbBuf0 (F := F) c tbM0_0) (xt1 : TbBuf0 (F := F) c tbM0_1) (xt2 : TbBuf0 (F := F) c tbM0_2)
    (hc0 : ¬ cond0_0 i (wdE c i xt1) (wdEp c i xt1)) (hc1 : ¬ cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ owns (c : Thread nD τ) arg8 fullShare w ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (freshOut x0 w) ∗ owns (c : Thread nD τ) arg8 fullShare w ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  obtain rfl := harg8.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold freshOut
    try unfold run_FF.sl.H3_2
    try unfold run_FF.sl.H3_1
    try unfold run_FF.sl.v75
    try unfold run_FF.sl.v77
    try unfold run_FF.sl.H3_1
    try unfold run_FF.sl.v77
    try unfold run_FF.sl.v82
    try unfold run_FF.sl.v68
    try unfold run_FF.sl.HS1_1
    try unfold run_FF.sl.r_2
    try unfold run_FF.sl.r_3
    try unfold run_FF.sl.r_4
    try unfold run_FF.sl.r_5
    try unfold run_FF.sl.v63
    try unfold run_FF.sl.HS0_1
    try unfold run_FF.sl.v72
    try unfold run_FF.sl.v88
    try unfold run_FF.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    exact harg8.read_unread _
  isplitl [HS1]
  · iexists _, _; isplitr; swap; · iexact HS1
    ipureintro; rfl
  isplitl [HT0]; · iexact HT0
  isplitl [HT1]; · iexact HT1
  iexact HT2

end Cert.KernelIdeal.Kit

end
-- ==== Proof.KILaunch.lean ====
/- The kernel's launch: what the body may leave in the output block at a grid point, told from what it found there; the
   decoded weights carried from point to point; and the run of the whole program over that account. -/
module

public import proofs.«01_k».proof.Proof.KIRun
public import Idealize.ShloMosaic.Lib.Pipeline.ArrRel
public import Idealize.ShloMosaic.Lib.Pipeline.Covers

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile of the point `t`, as a word of its table. -/
def tileW (i : grid0.Coords) : BitVec 32 := (tbl m).at 0 (Rect.unit (s := S151) (k0_off1 i) S1.size (k0_off1_inb i)) numel1_S1
/-- The expert of the point `t`, as a word of its table. -/
def expW (i : grid0.Coords) : BitVec 32 := (tbl m).at 1 (Rect.unit (s := S151) (k0_off1 i) S1.size (k0_off1_inb i)) numel1_S1

theorem wdE_eq (c : Dev nD) (i : grid0.Coords) : wdE c i (tbl m 1) = expW m i := rfl

theorem index_0 (hO : Ok m) (t : Fin (cfgM m hO).N) : ((cfgM m hO).win 0).index t = ![(tileW m (grid0.coords t)).toNat, 0] := rfl
theorem index_1 (hO : Ok m) (t : Fin (cfgM m hO).N) : ((cfgM m hO).win 1).index t = ![(expW m (grid0.coords t)).toNat, 0, 0] := rfl
theorem index_2 (hO : Ok m) (t : Fin (cfgM m hO).N) : ((cfgM m hO).win 2).index t = ![(expW m (grid0.coords t)).toNat, 0, 0] := rfl
theorem index_3 (hO : Ok m) (t : Fin (cfgM m hO).N) : ((cfgM m hO).win 3).index t = ![(tileW m (grid0.coords t)).toNat, 0] := rfl

theorem iblk_1_emb (hO : Ok m) (c : Dev nD) (t : Fin (cfgM m hO).N) (x : S1x1536x1024.Idx) :
    iblk m hO c 1 t x = V m c main_v55 ((((cfgM m hO).win 1).rect t).emb x) := rfl

/-- An array index of a window's block: the block's offset plus the index inside the block. -/
theorem rect_emb_val (hO : Ok m) (w : Fin (cfgM m hO).W) (t : Fin (cfgM m hO).N) (x : (((cfgM m hO).win w).rect t).shape.Idx)
    (a : Fin ((cfgM m hO).win w).shape.rank) :
    ((((cfgM m hO).win w).rect t).emb x a).val = ((cfgM m hO).win w).index t a * ((cfgM m hO).win w).size a + (x a).val := by
  show _ + 1 * (x a).val = _
  rw [Nat.one_mul]; rfl

theorem iblk_0_emb (hO : Ok m) (c : Dev nD) (t : Fin (cfgM m hO).N) (x : S512x3072.Idx) :
    iblk m hO c 0 t x = V m c main_arg0 ((((cfgM m hO).win 0).rect t).emb x) := rfl
theorem iblk_2_emb (hO : Ok m) (c : Dev nD) (t : Fin (cfgM m hO).N) (x : S1x96x1024.Idx) :
    iblk m hO c 2 t x = V m c main_v56 ((((cfgM m hO).win 2).rect t).emb x) := rfl

/-- The weights decoded at the point `t`. -/
def dec (hO : Ok m) (c : Dev nD) (t : Fin (cfgM m hO).N) : Vec F S3072x1024 .fp8e5m2 :=
  k0_pay3 (iblk m hO c 1 t) (iblk m hO c 2 t)

/-- Two points with one expert decode the same weights. -/
theorem dec_congr (hO : Ok m) (c : Dev nD) (t t' : Fin (cfgM m hO).N)
    (h : expW m (grid0.coords t) = expW m (grid0.coords t')) : dec m hO c t = dec m hO c t' := by
  have e1 : (iblk m hO c 1 t : Vec F S1x1536x1024 .i8) = iblk m hO c 1 t' := by
    funext x
    refine (iblk_1_emb m hO c t x).trans (Eq.trans ?_ (iblk_1_emb m hO c t' x).symm)
    refine congrArg _ (funext fun a => Fin.ext ?_)
    refine (rect_emb_val m hO 1 t x a).trans (Eq.trans ?_ (rect_emb_val m hO 1 t' x a).symm)
    rw [index_1 m hO t, index_1 m hO t', h]
  have e2 : (iblk m hO c 2 t : Vec F S1x96x1024 .f32) = iblk m hO c 2 t' := by
    funext x
    refine (iblk_2_emb m hO c t x).trans (Eq.trans ?_ (iblk_2_emb m hO c t' x).symm)
    refine congrArg _ (funext fun a => Fin.ext ?_)
    refine (rect_emb_val m hO 2 t x a).trans (Eq.trans ?_ (rect_emb_val m hO 2 t' x a).symm)
    rw [index_2 m hO t, index_2 m hO t', h]
  unfold dec
  exact congrArg₂ k0_pay3 e1 e2

open Classical in
/-- What the body leaves in the output block at the point `t`, of what it found there. -/
def stepOut (hO : Ok m) (c : Dev nD) (t : Fin (cfgM m hO).N) (y : Vec F S512x1024 .bf16) : Vec F S512x1024 .bf16 :=
  if cond0_1 (grid0.coords t) (wdL c (grid0.coords t) (tbl m 2)) then
    mergeOut (wdL c (grid0.coords t) (tbl m 2)) (iblk m hO c 0 t) (dec m hO c t) y
  else freshOut (iblk m hO c 0 t) (dec m hO c t)

end Cert.KernelIdeal.Kit

end
-- ==== Proof.KIDat.lean ====
/- The proof data of the pipeline: what the body may leave in each window, and that it leaves it. -/
module

public import proofs.«01_k».proof.Proof.KILaunch
public import Idealize.ShloMosaic.Lib.Pipeline.ArrRel
public import Idealize.ShloMosaic.Lib.Pipeline.Covers

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The decoded weights' buffer before point `n`: after the first point, what the point before decoded. -/
def wOwn (hO : Ok m) (c : Dev nD) (n : ℕ) : sProp 𝕄 :=
  iprop(∃ d : Vec F S3072x1024 .fp8e5m2, ⌜∀ s : Fin (cfgM m hO).N, s.val + 1 = n → d = dec m hO c s⌝ ∗ owns (c : Thread nD τ) scM0_0 fullShare d)

/-- The proof data: each input's block stays; the output block is `stepOut` of what was found; the decoded weights are
    carried. -/
def rdat (hO : Ok m) (c : Dev nD) : Pipeline.RDat τ (Elt F) Unit ℕ (UR sig nD τ) ℕ (cfgM m hO) c where
  A w := V m c (Pipeline.arrRef spec0 w)
  after w t Y X := match w with
    | ⟨0, _⟩ => X = iblk m hO c 0 t
    | ⟨1, _⟩ => X = iblk m hO c 1 t
    | ⟨2, _⟩ => X = iblk m hO c 2 t
    | ⟨3, _⟩ => X = stepOut m hO c t Y
  Φ t := iprop(iprop(iprop(wOwn m hO c t.val ∗ (∃ d, owns (c : Thread nD τ) scM0_1 fullShare d)) ∗ (∃ r, prngReg c r)) ∗ Pipeline.ΦT pre0 (tbl m) c)
  q _ := fullShare
  owed _ := 0

/-- Exact proof data with the same inputs, from which what the body finds in an input is read. -/
def datIn (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(emp)
  q _ := fullShare
  owed _ := 0

theorem rdat_A (hO : Ok m) (c : Dev nD) (w : Fin (cfgM m hO).W) : (rdat m hO c).A w = V m c (Pipeline.arrRef spec0 w) := by
  dsimp only [rdat]
theorem datIn_A (hO : Ok m) (c : Dev nD) (w : Fin (cfgM m hO).W) : (datIn m hO c).A w = V m c (Pipeline.arrRef spec0 w) := by
  dsimp only [datIn]

theorem leaves_live {cfg : Cfg sig Λ₀} {c : Dev nD} (dat : Dat τ (Elt F) Unit ℕ (UR sig nD τ) ℕ cfg c) (w : Fin cfg.W) (t : Fin cfg.N)
    (X : (cfg.win w).block.Idx → Elt F (cfg.win w).elt) (hi : cfg.idle w (cfg.grid.coords t) = false) (hl : cfg.loose w = false) :
    dat.Leaves w t X = (X = dat.after w t) := by
  unfold Dat.Leaves; rw [hi]; dsimp only; rw [hl]

theorem after_0 (hO : Ok m) (c : Dev nD) : (rdat m hO c).after 0 = (datIn m hO c).toR.after 0 := by
  funext t Y X
  refine Eq.trans ?_ (leaves_live (datIn m hO c) 0 t X rfl rfl).symm
  dsimp only [rdat, datIn]
  rfl
/-- What the body finds in input 0: its block. -/
theorem finds_0 (hO : Ok m) (c : Dev nD) (t : Fin (cfgM m hO).N) (Y) (h : (rdat m hO c).Finds 0 t Y) : Y = iblk m hO c 0 t := by
  have h' := (Pipeline.RDat.finds_congr (rd := (datIn m hO c).toR) (rd' := rdat m hO c) (w := 0)
    ((rdat_A m hO c 0).trans (datIn_A m hO c 0).symm) (after_0 m hO c) t Y).mp h
  obtain ⟨d, rfl⟩ := (datIn m hO c).toR_finds 0 t Y h'
  exact before0_0_of m hO (datIn m hO c) (datIn_A m hO c 0) (fun _ => by dsimp only [datIn]; rfl) t d
theorem after_1 (hO : Ok m) (c : Dev nD) : (rdat m hO c).after 1 = (datIn m hO c).toR.after 1 := by
  funext t Y X
  refine Eq.trans ?_ (leaves_live (datIn m hO c) 1 t X rfl rfl).symm
  dsimp only [rdat, datIn]
  rfl
/-- What the body finds in input 1: its block. -/
theorem finds_1 (hO : Ok m) (c : Dev nD) (t : Fin (cfgM m hO).N) (Y) (h : (rdat m hO c).Finds 1 t Y) : Y = iblk m hO c 1 t := by
  have h' := (Pipeline.RDat.finds_congr (rd := (datIn m hO c).toR) (rd' := rdat m hO c) (w := 1)
    ((rdat_A m hO c 1).trans (datIn_A m hO c 1).symm) (after_1 m hO c) t Y).mp h
  obtain ⟨d, rfl⟩ := (datIn m hO c).toR_finds 1 t Y h'
  exact before0_1_of m hO (datIn m hO c) (datIn_A m hO c 1) (fun _ => by dsimp only [datIn]; rfl) t d
theorem after_2 (hO : Ok m) (c : Dev nD) : (rdat m hO c).after 2 = (datIn m hO c).toR.after 2 := by
  funext t Y X
  refine Eq.trans ?_ (leaves_live (datIn m hO c) 2 t X rfl rfl).symm
  dsimp only [rdat, datIn]
  rfl
/-- What the body finds in input 2: its block. -/
theorem finds_2 (hO : Ok m) (c : Dev nD) (t : Fin (cfgM m hO).N) (Y) (h : (rdat m hO c).Finds 2 t Y) : Y = iblk m hO c 2 t := by
  have h' := (Pipeline.RDat.finds_congr (rd := (datIn m hO c).toR) (rd' := rdat m hO c) (w := 2)
    ((rdat_A m hO c 2).trans (datIn_A m hO c 2).symm) (after_2 m hO c) t Y).mp h
  obtain ⟨d, rfl⟩ := (datIn m hO c).toR_finds 2 t Y h'
  exact before0_2_of m hO (datIn m hO c) (datIn_A m hO c 2) (fun _ => by dsimp only [datIn]; rfl) t d

end Cert.KernelIdeal.Kit

end
-- ==== Proof.KIBody.lean ====
/- The body does, at every grid point, what the proof data say of it. -/
module

public import proofs.«01_k».proof.Proof.KIDat
public import Idealize.ShloMosaic.Lib.Pipeline.ArrRel
public import Idealize.ShloMosaic.Lib.Pipeline.Covers

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2_all : ∀ k : Fin 150, k0_off2 (grid0.coords (k.succ : Fin 151)) = k0_off1 (grid0.coords (k.castSucc : Fin 151)) := by
  decide

/-- The word before that of the point `t`, for a later point than the first: the word of the point before. -/
theorem wdEp_eq (hO : Ok m) (c : Dev nD) (t t' : Fin (cfgM m hO).N) (h : t'.val + 1 = t.val) :
    wdEp c (grid0.coords t) (tbl m 1) = expW m (grid0.coords t') := by
  have key : ∀ (off off' : Fin 1 → ℕ) (hi : ∀ a, off a + S1.size a ≤ S151.size a) (hi' : ∀ a, off' a + S1.size a ≤ S151.size a), off = off' →
      tbM0_1.view.readAt (Elt F) (Rect.unit (s := S151) off S1.size hi).toLoadRect (tbl m 1) (Shape.Idx.first (numel1_S1.symm ▸ Nat.one_pos))
        = tbM0_1.view.readAt (Elt F) (Rect.unit (s := S151) off' S1.size hi').toLoadRect (tbl m 1) (Shape.Idx.first (numel1_S1.symm ▸ Nat.one_pos)) := by
    intro off off' hi hi' e; subst e; rfl
  have e : k0_off2 (grid0.coords t) = k0_off1 (grid0.coords t') := by
    have hlt : t'.val < 150 := by have := t.isLt; have : (cfgM m hO).N = 151 := rfl; omega
    have e1 : t = ((⟨t'.val, hlt⟩ : Fin 150).succ : Fin 151) := Fin.ext h.symm
    have e2 : t' = ((⟨t'.val, hlt⟩ : Fin 150).castSucc : Fin 151) := Fin.ext rfl
    exact (congrArg (fun x => k0_off2 (grid0.coords x)) e1).trans ((off2_all _).trans (congrArg (fun x => k0_off1 (grid0.coords x)) e2).symm)
  exact (key _ _ _ (k0_off1_inb (grid0.coords t')) e).trans (wdE_eq m c _)

/-- Where the weights are not decoded afresh, the point is not the first and the expert is that of the point before. -/
theorem not_cond0 (i : grid0.Coords) (v1 v5 : BitVec 32) (h : ¬ cond0_0 i v1 v5) : (i 0).val ≠ 0 ∧ v1 = v5 := by
  unfold cond0_0 Scalar.cmpi Scalar.extui Scalar.ori at h
  rw [WordCmp.cmpi_eq_eq, WordCmp.cmpi_ne_eq, WordCmp.cmpi_ne_eq] at h
  by_cases h0 : BitVec.ofNat 32 (i 0).val = 0#32 <;> by_cases e : v1 = v5
  · rw [decide_eq_true h0, decide_eq_false (not_not.mpr e)] at h; exact absurd (by decide) h
  · rw [decide_eq_true h0, decide_eq_true e] at h; exact absurd (by decide) h
  · exact ⟨fun h1 => h0 (by rw [h1]), e⟩
  · rw [decide_eq_false h0, decide_eq_true e] at h; exact absurd (by decide) h

theorem coords_val : ∀ t : Fin 151, (grid0.coords t 0).val = t.val := by decide

/-- What the body is called with at point `t`, the inputs' blocks and the output's contents named. -/
def bodyPre (hO : Ok m) (c : Dev nD) (t : Fin (cfgM m hO).N) (y : Vec F S512x1024 .bf16) : sProp 𝕄 :=
  iprop((rdat m hO c).Φ t.castSucc ∗ (rdat m hO c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare y)

/-- And what it returns. -/
def bodyPost (hO : Ok m) (c : Dev nD) (t : Fin (cfgM m hO).N) (y : Vec F S512x1024 .bf16) : sProp 𝕄 :=
  iprop((rdat m hO c).Φ t.succ ∗ (rdat m hO c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (stepOut m hO c t y))

theorem Phi_eq (hO : Ok m) (c : Dev nD) (t : Fin ((cfgM m hO).N + 1)) : (rdat m hO c).Φ t
    = iprop(iprop(iprop(wOwn m hO c t.val ∗ (∃ d, owns (c : Thread nD τ) scM0_1 fullShare d)) ∗ (∃ r, prngReg c r)) ∗ iprop(tbPt0 c tbM0_0 (tbl m 0) ∗ tbPt0 c tbM0_1 (tbl m 1) ∗ tbPt0 c tbM0_2 (tbl m 2))) := by
  rw [← PhiT0_eq]; dsimp only [rdat]

set_option maxHeartbeats 3200000 in
/-- The body at any point. -/
theorem sound_body (hO : Ok m) (c : Dev nD) (t : Fin (cfgM m hO).N) (y : Vec F S512x1024 .bf16) :
    bodyPre m hO c t y ⊢ wp frame (wpE (defs₀ (F := F)) Variants.none c none) Set.univ (bodyAt0 (adm m hO) t) (fun _ => bodyPost m hO c t y) := by
  unfold bodyPre bodyPost bodyAt0
  rw [show (rdat m hO c).owesAt () t.succ = (rdat m hO c).owesAt () t.castSucc from rfl]
  rw [Phi_eq, Phi_eq]
  unfold wOwn
  by_cases h0 : cond0_0 (grid0.coords t) (wdE c (grid0.coords t) (tbl m 1)) (wdEp c (grid0.coords t) (tbl m 1))
  · by_cases h1 : cond0_1 (grid0.coords t) (wdL c (grid0.coords t) (tbl m 2))
    · rw [show stepOut m hO c t y = _ from if_pos h1]
      iintro ⟨⟨⟨⟨⟨%w0, %hw0, HS0⟩, HS1⟩, Hg⟩, ⟨HT0, HT1, HT2⟩⟩, Ho, H0, H1, H2, H3⟩
      iapply (run_TT c (grid0.coords t) _ _ _ _ _ _ _ _ _ _ _ _ (iblk m hO c 0 t) (iblk m hO c 1 t) (iblk m hO c 2 t) y (tbl m 0) (tbl m 1) (tbl m 2) h0 h1 Set.univ _)
      isplitl [H0]; · iexact H0
      isplitl [H1]; · iexact H1
      isplitl [H2]; · iexact H2
      isplitl [H3]; · iexact H3
      isplitl [HS0]; · iexists _; iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [show stepOut m hO c t y = _ from if_neg h1]
      iintro ⟨⟨⟨⟨⟨%w0, %hw0, HS0⟩, HS1⟩, Hg⟩, ⟨HT0, HT1, HT2⟩⟩, Ho, H0, H1, H2, H3⟩
      iapply (run_TF c (grid0.coords t) _ _ _ _ _ _ _ _ _ _ _ _ (iblk m hO c 0 t) (iblk m hO c 1 t) (iblk m hO c 2 t) y (tbl m 0) (tbl m 1) (tbl m 2) h0 h1 Set.univ _)
      isplitl [H0]; · iexact H0
      isplitl [H1]; · iexact H1
      isplitl [H2]; · iexact H2
      isplitl [H3]; · iexact H3
      isplitl [HS0]; · iexists _; iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
  · obtain ⟨hne, heq⟩ := not_cond0 _ _ _ h0
    have hpos : t.val ≠ 0 := fun e => hne ((coords_val t).trans e)
    obtain ⟨t', ht'⟩ : ∃ t' : Fin (cfgM m hO).N, t'.val + 1 = t.val := ⟨⟨t.val - 1, by have := t.isLt; omega⟩, by show t.val - 1 + 1 = t.val; omega⟩
    have hdec : expW m (grid0.coords t') = expW m (grid0.coords t) := ((wdE_eq m c _).symm.trans (heq.trans (wdEp_eq m hO c t t' ht'))).symm
    by_cases h1 : cond0_1 (grid0.coords t) (wdL c (grid0.coords t) (tbl m 2))
    · rw [show stepOut m hO c t y = _ from if_pos h1]
      iintro ⟨⟨⟨⟨⟨%w0, %hw0, HS0⟩, HS1⟩, Hg⟩, ⟨HT0, HT1, HT2⟩⟩, Ho, H0, H1, H2, H3⟩
      obtain rfl : w0 = dec m hO c t := (hw0 t' ht').trans (dec_congr m hO c t' t hdec)
      iapply (run_FT c (grid0.coords t) _ _ _ _ _ _ _ _ _ _ _ _ (iblk m hO c 0 t) (iblk m hO c 1 t) (iblk m hO c 2 t) y (dec m hO c t) (tbl m 0) (tbl m 1) (tbl m 2) h0 h1 Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [show stepOut m hO c t y = _ from if_neg h1]
      iintro ⟨⟨⟨⟨⟨%w0, %hw0, HS0⟩, HS1⟩, Hg⟩, ⟨HT0, HT1, HT2⟩⟩, Ho, H0, H1, H2, H3⟩
      obtain rfl : w0 = dec m hO c t := (hw0 t' ht').trans (dec_congr m hO c t' t hdec)
      iapply (run_FF c (grid0.coords t) _ _ _ _ _ _ _ _ _ _ _ _ (iblk m hO c 0 t) (iblk m hO c 1 t) (iblk m hO c 2 t) y (dec m hO c t) (tbl m 0) (tbl m 1) (tbl m 2) h0 h1 Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem after_in (hO : Ok m) (c : Dev nD) (t : Fin (cfgM m hO).N) (Y0 Y1 Y2 Y3) :
    (rdat m hO c).after 0 t Y0 (iblk m hO c 0 t) ∧ (rdat m hO c).after 1 t Y1 (iblk m hO c 1 t)
      ∧ (rdat m hO c).after 2 t Y2 (iblk m hO c 2 t) ∧ (rdat m hO c).after 3 t Y3 (stepOut m hO c t Y3) := by
  dsimp only [rdat]; exact ⟨rfl, rfl, rfl, rfl⟩

/-- The body obligation, at every point. -/
theorem body_obligation (hO : Ok m) (c : Dev nD) : (rdat (F := F) m hO c).BodyObligation (defs₀ (F := F)) Variants.none () Set.univ := by
  intro t Y hY
  have e0 := finds_0 m hO c t (Y 0) (hY 0)
  have e1 := finds_1 m hO c t (Y 1) (hY 1)
  have e2 := finds_2 m hO c t (Y 2) (hY 2)
  rw [bigSep_W0, bigSep_W0, defs₀_row m hO]
  refine triple_restated (sound_body m hO c t (Y 3)) rfl ?_ fun _ => ?_
  · unfold bodyPre; rw [e0, e1, e2]
  · obtain ⟨a0, a1, a2, a3⟩ := after_in m hO c t (Y 0) (Y 1) (Y 2) (Y 3)
    unfold bodyPost
    iintro ⟨HΦ, Ho, H0, H1, H2, H3⟩
    isplitl [HΦ]; · iexact HΦ
    isplitl [Ho]; · iexact Ho
    isplitl [H0]; · iexists _; isplitr; · ipureintro; exact a0
                    iexact H0
    isplitl [H1]; · iexists _; isplitr; · ipureintro; exact a1
                    iexact H1
    isplitl [H2]; · iexists _; isplitr; · ipureintro; exact a2
                    iexact H2
    iexists _; isplitr; · ipureintro; exact a3
    iexact H3

end Cert.KernelIdeal.Kit

end
-- ==== Proof.KIMain.lean ====
/- The run of the whole program over the proof data. -/
module

public import proofs.«01_k».proof.Proof.KIBody
public import Idealize.ShloMosaic.Lib.Pipeline.ArrRel
public import Idealize.ShloMosaic.Lib.Pipeline.Covers
public import Idealize.ShloMosaic.Lib.Claim

@[expose] public section

set_option maxRecDepth 16384

noncomputable section

namespace Cert.KernelIdeal.Kit

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owed_ (hO : Ok m) (c : Dev nD) (t) : (rdat m hO c).owed t = 0 := by dsimp only [rdat]
theorem share_ (hO : Ok m) (c : Dev nD) (w) : (rdat m hO c).share w = fullShare :=
  (rdat m hO c).share_full (fun _ => by dsimp only [rdat]) w
theorem hin_ (hO : Ok m) (c : Dev nD) : iprop(Pipeline.ΦA spec0 c ∗ Pipeline.ΦT pre0 (tbl m) c) ⊢ (rdat m hO c).Φ 0 := by
  rw [Phi_eq, PhiT0_eq, PhiA0_eq]
  unfold wOwn
  iintro ⟨⟨⟨⟨%w, HS0⟩, HS1⟩, Hg⟩, HT⟩
  isplitr [HT]; swap; · iexact HT
  isplitr [Hg]; swap; · iexact Hg
  isplitr [HS1]; swap; · iexact HS1
  iexists w; isplitr
  · ipureintro; intro s hs; exact absurd hs (Nat.succ_ne_zero _)
  iexact HS0

theorem hout_ (hO : Ok m) (c : Dev nD) : (rdat m hO c).Φ (Fin.last _) ⊢ (Pipeline.ΦA spec0 c : sProp 𝕄) := by
  rw [Phi_eq, PhiA0_eq]
  unfold wOwn
  iintro ⟨⟨⟨⟨%w, %hw, HS0⟩, HS1⟩, Hg⟩, HT⟩
  isplitr [Hg]; swap; · iexact Hg
  isplitr [HS1]; swap; · iexact HS1
  iexists w; iexact HS0

set_option maxHeartbeats 3200000 in
-- the launch theorem's implicit arguments are found by unifying its conclusion with this one
set_option backward.isDefEq.respectTransparency.types false in
/-- The launch: every run ends as the proof data say, every semaphore counter at zero. -/
theorem run_main_quiescent (hO : Ok m) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP_track (Q' := _) pcfgs (fun _ => adm m hO) (0 : Fin 1) launch0 defs₀ Variants.none (fun c => rdat m hO c) m ρ main
    (hbody := fun c => body_obligation m hO c) (hshare := share_ m hO)
    (howed := owed_ m hO) (V := V m) (hmain := hmain m Variants.none) (hA := rdat_A m hO) (hpf := V_pre m)
    (hin := fun c => hin_ m hO c) (hout := fun c => hout_ m hO c)

theorem run_main (hO : Ok m) : θ_run defs (onTc (τ := τ) (main (F := F))) (s₀ m ρ) (Pipeline.RDat.FramePost ((Pipeline.pin pcfgs fun _ => adm m hO) 0) (fun c => rdat m hO c) (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => rdat m hO c) (rdat_A m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Kit

end
-- ==== Proof.KITab.lean ====
/- The kernel's prefetched tables at a grid point, as naturals of the visit schedule, and the blocks they name inside
   their arrays. -/
module

public import proofs.«01_k».proof.Proof.KIHost
public import proofs.«01_k».proof.Proof.KIMain

@[expose] public section

set_option maxRecDepth 16384

noncomputable section

namespace Cert.KernelIdeal.Kit

open Cert.KernelIdeal.Gen
open Idealize.ShloMosaic Idealize.ShloMosaic.TcCoe Idealize.ShloMosaic.Tactic Idealize.ShloMosaic.ValueIdx
open Cert.Sched Cert.Tables

/-- A token block of a tile in range is inside the tokens, in whole words. -/
theorem blk_tok (n : ℕ) (ix : Fin 2 → ℕ) (e : ix = ![n, 0]) (h : n < 144) :
    ∃ h : (∀ a, (ix a + 1) * S512x3072.size a ≤ S73728x3072.size a), EltTy.bits .bf16 = 32 ∨ (Rect.block (s := S73728x3072) S512x3072.size ix h).WholeWords (EltTy.packing .bf16) := by
  subst e
  refine ⟨fun a => ?_, Or.inr (Or.inl (Or.inr ⟨by decide, rfl, Or.inl ⟨?_, ?_⟩⟩))⟩
  · match a with
    | ⟨0, _⟩ => show (n + 1) * 512 ≤ 73728; omega
    | ⟨1, _⟩ => show (0 + 1) * 3072 ≤ 3072; omega
  · show 2 ∣ n * 512; omega
  · show 2 ∣ 512; omega

/-- An output block of a tile in range is inside the output, in whole words. -/
theorem blk_out (n : ℕ) (ix : Fin 2 → ℕ) (e : ix = ![n, 0]) (h : n < 144) :
    ∃ h : (∀ a, (ix a + 1) * S512x1024.size a ≤ S73728x1024.size a), EltTy.bits .bf16 = 32 ∨ (Rect.block (s := S73728x1024) S512x1024.size ix h).WholeWords (EltTy.packing .bf16) := by
  subst e
  refine ⟨fun a => ?_, Or.inr (Or.inl (Or.inr ⟨by decide, rfl, Or.inl ⟨?_, ?_⟩⟩))⟩
  · match a with
    | ⟨0, _⟩ => show (n + 1) * 512 ≤ 73728; omega
    | ⟨1, _⟩ => show (0 + 1) * 1024 ≤ 1024; omega
  · show 2 ∣ n * 512; omega
  · show 2 ∣ 512; omega

/-- The packed weights of an expert in range are inside their array, in whole words. -/
theorem blk_w (n : ℕ) (ix : Fin 3 → ℕ) (e : ix = ![n, 0, 0]) (h : n < 8) :
    ∃ h : (∀ a, (ix a + 1) * S1x1536x1024.size a ≤ S8x1536x1024.size a), EltTy.bits .i8 = 32 ∨ (Rect.block (s := S8x1536x1024) S1x1536x1024.size ix h).WholeWords (EltTy.packing .i8) := by
  subst e
  refine ⟨fun a => ?_, Or.inr (Or.inr ⟨by decide, rfl, rfl, rfl⟩)⟩
  match a with
  | ⟨0, _⟩ => show (n + 1) * 1 ≤ 8; omega
  | ⟨1, _⟩ => show (0 + 1) * 1536 ≤ 1536; omega
  | ⟨2, _⟩ => show (0 + 1) * 1024 ≤ 1024; omega

/-- The scales of an expert in range are inside their array. -/
theorem blk_s (n : ℕ) (ix : Fin 3 → ℕ) (e : ix = ![n, 0, 0]) (h : n < 8) :
    ∃ h : (∀ a, (ix a + 1) * S1x96x1024.size a ≤ S8x96x1024.size a), EltTy.bits .f32 = 32 ∨ (Rect.block (s := S8x96x1024) S1x96x1024.size ix h).WholeWords (EltTy.packing .f32) := by
  subst e
  refine ⟨fun a => ?_, Or.inl rfl⟩
  match a with
  | ⟨0, _⟩ => show (n + 1) * 1 ≤ 8; omega
  | ⟨1, _⟩ => show (0 + 1) * 96 ≤ 96; omega
  | ⟨2, _⟩ => show (0 + 1) * 1024 ≤ 1024; omega

variable {F : FTy → Type} [FloatOps F]
variable (m : (ℓ : Loc nD τ sig) → Buf (Elt F) ℓ)

/-- The one word a point's table load reads: the table's word at the point. -/
theorem off1_emb (i : grid0.Coords) : (Rect.unit (s := S151) (k0_off1 i) S1.size (k0_off1_inb i)).emb (Shape.Idx.first (numel1_S1.symm ▸ Nat.zero_lt_one)) = (ValueIdx.ix1 (⟨(i 0).val, (i 0).isLt⟩ : Fin 151) : S151.Idx) := by
  funext a
  match a with
  | ⟨0, _⟩ =>
    refine Fin.ext ?_
    have h : (k0_off1 i) 0 = (i 0).val := by
      have := (i 0).isLt
      show (BitVec.ofNat 32 (i 0).val).toNat = _
      rw [BitVec.toNat_ofNat]
      have : (i 0).val < 151 := (i 0).isLt
      omega
    show (k0_off1 i) 0 + 1 * 0 = (i 0).val
    omega

variable {m} {G : ℕ → ℕ} (hg : ∀ i : Fin 8, (gsz m 0) (ValueIdx.ix1 i) = BitVec.ofNat 32 (G i.val)) (hG : P G 8 = 73728)
include hg hG

/-- The tile of a grid point. -/
theorem tileW_eq (i : grid0.Coords) : tileW m i = BitVec.ofNat 32 (vt G (i 0).val) := by
  have h : tileW m i = (V m 0 main_v42 : V151) (ValueIdx.ix1 (⟨(i 0).val, (i 0).isLt⟩ : Fin 151)) :=
    congrArg (V m 0 main_v42 : V151) (off1_emb i)
  exact h.trans ((congrFun (V_v42 m 0) _).trans (vtV_ap hg hG ⟨(i 0).val, (i 0).isLt⟩))

/-- The expert of a grid point. -/
theorem expW_eq (i : grid0.Coords) : expW m i = BitVec.ofNat 32 (ve G (i 0).val) := by
  have h : expW m i = (V m 0 main_v25 : V151) (ValueIdx.ix1 (⟨(i 0).val, (i 0).isLt⟩ : Fin 151)) :=
    congrArg (V m 0 main_v25 : V151) (off1_emb i)
  exact h.trans ((congrFun (V_v25 m 0) _).trans (veV_ap hg hG ⟨(i 0).val, (i 0).isLt⟩))

/-- The first row a grid point owns of its tile. -/
theorem wdL_eq (i : grid0.Coords) : wdL (0 : Dev nD) i (tbl m 2) = BitVec.ofNat 32 (vlo G (i 0).val) := by
  have h : wdL (0 : Dev nD) i (tbl m 2) = (V m 0 main_v54 : V151) (ValueIdx.ix1 (⟨(i 0).val, (i 0).isLt⟩ : Fin 151)) :=
    congrArg (V m 0 main_v54 : V151) (off1_emb i)
  exact h.trans ((congrFun (V_v54 m 0) _).trans (vloV_ap hg hG ⟨(i 0).val, (i 0).isLt⟩))

/-- The tile of a grid point is in range. -/
theorem tileW_lt (i : grid0.Coords) : (tileW m i).toNat < 144 := by
  rw [tileW_eq hg hG, BitVec.toNat_ofNat]
  have := vt_lt hG (i 0).val
  omega

/-- The expert of a grid point is in range. -/
theorem expW_lt (i : grid0.Coords) : (expW m i).toNat < 8 := by
  rw [expW_eq hg hG, BitVec.toNat_ofNat]
  have := (ve_spec hG (i 0).val).1
  omega

/-- Every block the tables name lies inside its array, in whole words. -/
theorem ok_of : Ok m := by
  have ht := fun i => tileW_lt hg hG (m := m) i
  have he := fun i => expW_lt hg hG (m := m) i
  have e0 : ∀ i, cc0_transform_0 k0_off1_inb numel1_S1 (tbl m) i = ![(tileW m i).toNat, 0] := fun _ => rfl
  have e1 : ∀ i, cc0_transform_1 k0_off1_inb numel1_S1 (tbl m) i = ![(expW m i).toNat, 0, 0] := fun _ => rfl
  have e2 : ∀ i, cc0_transform_2 k0_off1_inb numel1_S1 (tbl m) i = ![(expW m i).toNat, 0, 0] := fun _ => rfl
  have e3 : ∀ i, cc0_transform_3 k0_off1_inb numel1_S1 (tbl m) i = ![(tileW m i).toNat, 0] := fun _ => rfl
  exact ⟨fun i => blk_tok _ _ (e0 i) (ht i), fun i => blk_w _ _ (e1 i) (he i), fun i => blk_s _ _ (e2 i) (he i), fun i => blk_out _ _ (e3 i) (ht i)⟩

end Cert.KernelIdeal.Kit
-- ==== Proof.KKit.lean ====
/- What the value and frame arguments of the kernel share: the memory the region finds, the three tables as the body is
   handed them, each window's block at a grid point, and the staging and scratch buffers. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_dgrad (grid0.coords t) (Memref.whole main_v42) (Memref.isWhole_whole _) (Memref.whole main_v25) (Memref.isWhole_whole _) (Memref.whole main_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _)

/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S151 .i32 := Memref.whole main_v42
abbrev htbM0_0 : tbM0_0.IsWhole := Memref.isWhole_whole _
abbrev tbM0_1 : Memref sig .tc .smem S151 .i32 := Memref.whole main_v25
abbrev htbM0_1 : tbM0_1.IsWhole := Memref.isWhole_whole _
abbrev tbM0_2 : Memref sig .tc .smem S151 .i32 := Memref.whole main_v54
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩) h

/-! ## The body's branch conditions -/

/-- The condition of the body's `scf.if` 0: over WORDS the body reads from its tables or input SMEM windows
    (`v1`, `v5`), so no function of the point — a case variable: a hypothesis of each run, a `by_cases`
    of the obligation and an `if` of `outsAt`, stated over the argument blocks' words there. -/
abbrev cond0_0 (i : grid0.Coords) (v1 : BitVec 32) (v5 : BitVec 32) : Prop := (Scalar.cmpi .ne (Scalar.extui (Scalar.ori (Scalar.cmpi .eq (BitVec.ofNat 32 (i 0).val) 0#32) (Scalar.cmpi .ne v1 v5))) 0#32) = 1#1

/-- The condition of the body's `scf.if` 1: over WORDS the body reads from its tables or input SMEM windows
    (`v12`), so no function of the point — a case variable: a hypothesis of each run, a `by_cases`
    of the obligation and an `if` of `outsAt`, stated over the argument blocks' words there. -/
abbrev cond0_1 (i : grid0.Coords) (v12 : BitVec 32) : Prop := (Scalar.cmpi .ne (Scalar.extui (Scalar.cmpi .sgt v12 0#32)) 0#32) = 1#1

/-- The condition of the body's `scf.if` 2: over WORDS the body reads from its tables or input SMEM windows
    (`v12`), so no function of the point — a case variable: a hypothesis of each run, a `by_cases`
    of the obligation and an `if` of `outsAt`, stated over the argument blocks' words there. -/
abbrev cond0_2 (i : grid0.Coords) (v12 : BitVec 32) : Prop := (Scalar.cmpi .ne (Scalar.extui (Scalar.cmpi .sgt v12 0#32)) 0#32) = 1#1

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x3072 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1536x1024 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x96x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
/-- The scratch operands: whole scoped buffers of the kernel's own, passed beside the windows. -/
abbrev scM0_0 : Memref sig .tc .vmem S3072x1024 .fp8e5m2 := Memref.whole cc0_scratch0
abbrev scM0_1 : Memref sig .tc .vmem S512x1024 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Kit

end
-- ==== Proof.KHost.lean ====
/- What the host leaves in the buffers the region reads, as functions of the arguments: the three tables, and the weights
   and scales transposed. The host's operations come in nine groups; each group is read over whatever the groups before it
   left. -/
module

public import proofs.«01_k».proof.Proof.KKit
public import proofs.«01_k».proof.Proof.Tables
public import Idealize.ShloMosaic.Lib.StableHlo.ReadAt

@[expose] public section

set_option maxRecDepth 16384

noncomputable section

namespace Cert.Kernel.Kit

open Cert.Kernel.Gen Cert.Tables
open Idealize.ShloMosaic Idealize.ShloMosaic.TcCoe Idealize.ShloMosaic.Tactic Idealize.ShloMosaic.StableHlo

variable {F : FTy → Type} [FloatOps F]

section Groups
variable (W : (b : DevRef τ sig) → b.ty.Contents (Elt F))

/-- The running sums of the group sizes. -/
theorem g0 : after hostOps0 W (Proc.devRef .tc main_v0) = cums (W (Proc.devRef .tc main_arg1)) := by
  after_reads_simp
  simp -implicitDefEqProofs only [StableHlo.TRef.toBuf, StableHlo.TRef.ofBuf, cast_cast, cast_eq]
  rfl
/-- Each expert's first row. -/
theorem g1 : after hostOps0_1 W (Proc.devRef .tc main_v1) = subi (W (Proc.devRef .tc main_v0) : V8) (W (Proc.devRef .tc main_arg1)) := by
  after_reads_simp
theorem g1c : after hostOps0_1 W (Proc.devRef .tc main_c) = constantI Routing.shape0 32 512#32 := by
  after_reads_simp
/-- Each expert's first tile. -/
theorem g2 : after hostOps0_2 W (Proc.devRef .tc main_v2) = Routing.pyDiv b08 (W (Proc.devRef .tc main_v1) : V8) (W (Proc.devRef .tc main_c)) := by
  after_reads_simp
  simp -implicitDefEqProofs only [StableHlo.TRef.toBuf, StableHlo.TRef.ofBuf, cast_cast, cast_eq]
  rfl
theorem g3_4 : after hostOps0_3 W (Proc.devRef .tc main_v4) = cmpi .sgt (W (Proc.devRef .tc main_arg1) : V8) (broadcastInDim (Routing.shape1 8) ![] b08 (constantI Routing.shape0 32 0#32)) := by
  after_reads_simp
theorem g3_6 : after hostOps0_3 W (Proc.devRef .tc main_v6) = subi (W (Proc.devRef .tc main_v0) : V8) (broadcastInDim (Routing.shape1 8) ![] b08 (constantI Routing.shape0 32 1#32)) := by
  after_reads_simp
theorem g3_c : after hostOps0_3 W (Proc.devRef .tc main_c_2) = constantI Routing.shape0 32 512#32 := by
  after_reads_simp
theorem g4 : after hostOps0_4 W (Proc.devRef .tc main_v7) = Routing.pyDiv b08 (W (Proc.devRef .tc main_v6) : V8) (W (Proc.devRef .tc main_c_2)) := by
  after_reads_simp
  simp -implicitDefEqProofs only [StableHlo.TRef.toBuf, StableHlo.TRef.ofBuf, cast_cast, cast_eq]
  rfl
theorem g5 : after hostOps0_5 W (Proc.devRef .tc main_v10) = addi (subi (W (Proc.devRef .tc main_v7) : V8) (W (Proc.devRef .tc main_v2))) (broadcastInDim (Routing.shape1 8) ![] b08 (constantI Routing.shape0 32 1#32)) := by
  after_reads_simp
theorem g5_c : after hostOps0_5 W (Proc.devRef .tc main_c_4) = constantI Routing.shape0 32 0#32 := by
  after_reads_simp
theorem g6 : after hostOps0_6 W (Proc.devRef .tc main_v11) = select (W (Proc.devRef .tc main_v4) : IVec (Routing.shape1 8) 1) (W (Proc.devRef .tc main_v10) : V8) (broadcastInDim (Routing.shape1 8) ![] b08 (W (Proc.devRef .tc main_c_4) : V0)) := by
  after_reads_simp
  simp -implicitDefEqProofs only [StableHlo.TRef.toBuf, StableHlo.TRef.ofBuf, cast_cast, cast_eq]
  rfl
theorem g7 : after hostOps0_7 W (Proc.devRef .tc main_v12) = cums (W (Proc.devRef .tc main_v11)) := by
  after_reads_simp
  simp -implicitDefEqProofs only [StableHlo.TRef.toBuf, StableHlo.TRef.ofBuf, cast_cast, cast_eq]
  rfl
theorem g8_18 : after hostOps0_8 W (Proc.devRef .tc main_v18) = vxW (W (Proc.devRef .tc main_v12)) := by
  after_reads_simp
  rfl
theorem g8_25 : after hostOps0_8 W (Proc.devRef .tc main_v25) = veW (W (Proc.devRef .tc main_v12)) := by
  after_reads_simp
  rfl
theorem g8_42 : after hostOps0_8 W (Proc.devRef .tc main_v42) = vtW (W (Proc.devRef .tc main_v2)) (W (Proc.devRef .tc main_v12)) (W (Proc.devRef .tc main_v11)) := by
  after_reads_simp
  rfl
theorem g8_54 : after hostOps0_8 W (Proc.devRef .tc main_v54) = vloW (W (Proc.devRef .tc main_v1)) (W (Proc.devRef .tc main_v2)) (W (Proc.devRef .tc main_v12)) (W (Proc.devRef .tc main_v11)) := by
  after_reads_simp
  rfl
theorem g8_55 : after hostOps0_8 W (Proc.devRef .tc main_v55) = transpose S8x1536x1024 [0, 2, 1] (W (Proc.devRef .tc main_arg2)) transposes_S8x1024x1536_S8x1536x1024_0_2_1 := by
  after_reads_simp
theorem g8_56 : after hostOps0_8 W (Proc.devRef .tc main_v56) = transpose S8x96x1024 [0, 2, 1] (W (Proc.devRef .tc main_arg3)) transposes_S8x1024x96_S8x96x1024_0_2_1 := by
  after_reads_simp
/-- Group 0 does not write `main_arg1`. -/
theorem u0_arg1 : after hostOps0 W (Proc.devRef .tc main_arg1) = W (Proc.devRef .tc main_arg1) := by
  after_reads_simp
/-- Group 0 does not write `main_arg2`. -/
theorem u0_arg2 : after hostOps0 W (Proc.devRef .tc main_arg2) = W (Proc.devRef .tc main_arg2) := by
  after_reads_simp
/-- Group 0 does not write `main_arg3`. -/
theorem u0_arg3 : after hostOps0 W (Proc.devRef .tc main_arg3) = W (Proc.devRef .tc main_arg3) := by
  after_reads_simp
/-- Group 1 does not write `main_arg1`. -/
theorem u1_arg1 : after hostOps0_1 W (Proc.devRef .tc main_arg1) = W (Proc.devRef .tc main_arg1) := by
  after_reads_simp
/-- Group 1 does not write `main_arg2`. -/
theorem u1_arg2 : after hostOps0_1 W (Proc.devRef .tc main_arg2) = W (Proc.devRef .tc main_arg2) := by
  after_reads_simp
/-- Group 1 does not write `main_arg3`. -/
theorem u1_arg3 : after hostOps0_1 W (Proc.devRef .tc main_arg3) = W (Proc.devRef .tc main_arg3) := by
  after_reads_simp
/-- Group 1 does not write `main_v0`. -/
theorem u1_v0 : after hostOps0_1 W (Proc.devRef .tc main_v0) = W (Proc.devRef .tc main_v0) := by
  after_reads_simp
/-- Group 2 does not write `main_arg1`. -/
theorem u2_arg1 : after hostOps0_2 W (Proc.devRef .tc main_arg1) = W (Proc.devRef .tc main_arg1) := by
  after_reads_simp
/-- Group 2 does not write `main_arg2`. -/
theorem u2_arg2 : after hostOps0_2 W (Proc.devRef .tc main_arg2) = W (Proc.devRef .tc main_arg2) := by
  after_reads_simp
/-- Group 2 does not write `main_arg3`. -/
theorem u2_arg3 : after hostOps0_2 W (Proc.devRef .tc main_arg3) = W (Proc.devRef .tc main_arg3) := by
  after_reads_simp
/-- Group 2 does not write `main_v0`. -/
theorem u2_v0 : after hostOps0_2 W (Proc.devRef .tc main_v0) = W (Proc.devRef .tc main_v0) := by
  after_reads_simp
/-- Group 2 does not write `main_v1`. -/
theorem u2_v1 : after hostOps0_2 W (Proc.devRef .tc main_v1) = W (Proc.devRef .tc main_v1) := by
  after_reads_simp
/-- Group 3 does not write `main_arg1`. -/
theorem u3_arg1 : after hostOps0_3 W (Proc.devRef .tc main_arg1) = W (Proc.devRef .tc main_arg1) := by
  after_reads_simp
/-- Group 3 does not write `main_arg2`. -/
theorem u3_arg2 : after hostOps0_3 W (Proc.devRef .tc main_arg2) = W (Proc.devRef .tc main_arg2) := by
  after_reads_simp
/-- Group 3 does not write `main_arg3`. -/
theorem u3_arg3 : after hostOps0_3 W (Proc.devRef .tc main_arg3) = W (Proc.devRef .tc main_arg3) := by
  after_reads_simp
/-- Group 3 does not write `main_v1`. -/
theorem u3_v1 : after hostOps0_3 W (Proc.devRef .tc main_v1) = W (Proc.devRef .tc main_v1) := by
  after_reads_simp
/-- Group 3 does not write `main_v2`. -/
theorem u3_v2 : after hostOps0_3 W (Proc.devRef .tc main_v2) = W (Proc.devRef .tc main_v2) := by
  after_reads_simp
/-- Group 4 does not write `main_arg1`. -/
theorem u4_arg1 : after hostOps0_4 W (Proc.devRef .tc main_arg1) = W (Proc.devRef .tc main_arg1) := by
  after_reads_simp
/-- Group 4 does not write `main_arg2`. -/
theorem u4_arg2 : after hostOps0_4 W (Proc.devRef .tc main_arg2) = W (Proc.devRef .tc main_arg2) := by
  after_reads_simp
/-- Group 4 does not write `main_arg3`. -/
theorem u4_arg3 : after hostOps0_4 W (Proc.devRef .tc main_arg3) = W (Proc.devRef .tc main_arg3) := by
  after_reads_simp
/-- Group 4 does not write `main_v1`. -/
theorem u4_v1 : after hostOps0_4 W (Proc.devRef .tc main_v1) = W (Proc.devRef .tc main_v1) := by
  after_reads_simp
/-- Group 4 does not write `main_v2`. -/
theorem u4_v2 : after hostOps0_4 W (Proc.devRef .tc main_v2) = W (Proc.devRef .tc main_v2) := by
  after_reads_simp
/-- Group 4 does not write `main_v4`. -/
theorem u4_v4 : after hostOps0_4 W (Proc.devRef .tc main_v4) = W (Proc.devRef .tc main_v4) := by
  after_reads_simp
/-- Group 5 does not write `main_arg2`. -/
theorem u5_arg2 : after hostOps0_5 W (Proc.devRef .tc main_arg2) = W (Proc.devRef .tc main_arg2) := by
  after_reads_simp
/-- Group 5 does not write `main_arg3`. -/
theorem u5_arg3 : after hostOps0_5 W (Proc.devRef .tc main_arg3) = W (Proc.devRef .tc main_arg3) := by
  after_reads_simp
/-- Group 5 does not write `main_v1`. -/
theorem u5_v1 : after hostOps0_5 W (Proc.devRef .tc main_v1) = W (Proc.devRef .tc main_v1) := by
  after_reads_simp
/-- Group 5 does not write `main_v2`. -/
theorem u5_v2 : after hostOps0_5 W (Proc.devRef .tc main_v2) = W (Proc.devRef .tc main_v2) := by
  after_reads_simp
/-- Group 5 does not write `main_v4`. -/
theorem u5_v4 : after hostOps0_5 W (Proc.devRef .tc main_v4) = W (Proc.devRef .tc main_v4) := by
  after_reads_simp
/-- Group 6 does not write `main_arg2`. -/
theorem u6_arg2 : after hostOps0_6 W (Proc.devRef .tc main_arg2) = W (Proc.devRef .tc main_arg2) := by
  after_reads_simp
/-- Group 6 does not write `main_arg3`. -/
theorem u6_arg3 : after hostOps0_6 W (Proc.devRef .tc main_arg3) = W (Proc.devRef .tc main_arg3) := by
  after_reads_simp
/-- Group 6 does not write `main_v1`. -/
theorem u6_v1 : after hostOps0_6 W (Proc.devRef .tc main_v1) = W (Proc.devRef .tc main_v1) := by
  after_reads_simp
/-- Group 6 does not write `main_v2`. -/
theorem u6_v2 : after hostOps0_6 W (Proc.devRef .tc main_v2) = W (Proc.devRef .tc main_v2) := by
  after_reads_simp
/-- Group 7 does not write `main_arg2`. -/
theorem u7_arg2 : after hostOps0_7 W (Proc.devRef .tc main_arg2) = W (Proc.devRef .tc main_arg2) := by
  after_reads_simp
/-- Group 7 does not write `main_arg3`. -/
theorem u7_arg3 : after hostOps0_7 W (Proc.devRef .tc main_arg3) = W (Proc.devRef .tc main_arg3) := by
  after_reads_simp
/-- Group 7 does not write `main_v1`. -/
theorem u7_v1 : after hostOps0_7 W (Proc.devRef .tc main_v1) = W (Proc.devRef .tc main_v1) := by
  after_reads_simp
/-- Group 7 does not write `main_v2`. -/
theorem u7_v2 : after hostOps0_7 W (Proc.devRef .tc main_v2) = W (Proc.devRef .tc main_v2) := by
  after_reads_simp
/-- Group 7 does not write `main_v11`. -/
theorem u7_v11 : after hostOps0_7 W (Proc.devRef .tc main_v11) = W (Proc.devRef .tc main_v11) := by
  after_reads_simp
end Groups

variable (m : (ℓ : Loc nD τ sig) → Buf (Elt F) ℓ)

/-- The memory the region finds, group by group. -/
theorem V_split (c : Dev nD) (b : Ref sig .tc) :
    V m c b = after hostOps0_8 (after hostOps0_7 (after hostOps0_6 (after hostOps0_5 (after hostOps0_4 (after hostOps0_3 (after hostOps0_2
      (after hostOps0_1 (after hostOps0 fun b => m (c, b))))))))) (Proc.devRef .tc b) := by
  have app : ∀ (l₁ l₂ : List (HloOp τ sig (Elt F))) (W : (b : DevRef τ sig) → b.ty.Contents (Elt F)), after (l₁ ++ l₂) W = after l₂ (after l₁ W) := by
    intro l₁
    induction l₁ with
    | nil => intro l₂ W; rfl
    | cons op l ih => intro l₂ W; exact ih l₂ _
  unfold V
  rw [List.flatten_cons, List.flatten_cons, List.flatten_cons, List.flatten_cons, List.flatten_cons, List.flatten_cons, List.flatten_cons,
    List.flatten_cons, List.flatten_cons, List.flatten_nil, List.append_nil]
  simp only [app]

/-- The group sizes as launched. -/
abbrev gsz (c : Dev nD) : V8 := m ((c : Thread nD τ).loc main_arg1)

/-- The table of experts. -/
theorem V_v25 (c : Dev nD) : V m c main_v25 = veV (gsz m c) := by
  rw [V_split, g8_25, g7, g6, g5, g5_c, u5_v4, g4, u4_v2, u4_v4, g3_4, g3_6, g3_c, u3_v2, g2, u2_arg1, u2_v0, g1, g1c, u1_v0, u1_arg1, g0, u0_arg1]
  rfl

/-- The table of tiles. -/
theorem V_v42 (c : Dev nD) : V m c main_v42 = vtV (gsz m c) := by
  rw [V_split, g8_42, g7, u7_v2, u7_v11, g6, u6_v2, g5, g5_c, u5_v2, u5_v4, g4, u4_v2, u4_v4, g3_4, g3_6, g3_c, u3_v2, g2, u2_arg1, u2_v0, g1, g1c, u1_v0, u1_arg1, g0, u0_arg1]
  rfl

/-- The table of first owned rows. -/
theorem V_v54 (c : Dev nD) : V m c main_v54 = vloV (gsz m c) := by
  rw [V_split, g8_54, g7, u7_v1, u7_v2, u7_v11, g6, u6_v1, u6_v2, g5, g5_c, u5_v1, u5_v2, u5_v4, g4, u4_v1, u4_v2, u4_v4, g3_4, g3_6, g3_c, u3_v1, u3_v2, g2, u2_arg1, u2_v0, u2_v1, g1, g1c, u1_v0, u1_arg1, g0, u0_arg1]
  rfl

/-- The weights with the contracted axis first. -/
theorem V_v55 (c : Dev nD) : V m c main_v55 = transpose S8x1536x1024 [0, 2, 1] (m ((c : Thread nD τ).loc main_arg2)) transposes_S8x1024x1536_S8x1536x1024_0_2_1 := by
  rw [V_split, g8_55, u7_arg2, u6_arg2, u5_arg2, u4_arg2, u3_arg2, u2_arg2, u1_arg2, u0_arg2]

/-- The scales with the contracted axis first. -/
theorem V_v56 (c : Dev nD) : V m c main_v56 = transpose S8x96x1024 [0, 2, 1] (m ((c : Thread nD τ).loc main_arg3)) transposes_S8x1024x96_S8x96x1024_0_2_1 := by
  rw [V_split, g8_56, u7_arg3, u6_arg3, u5_arg3, u4_arg3, u3_arg3, u2_arg3, u1_arg3, u0_arg3]

end Cert.Kernel.Kit
-- ==== Proof.KRun.lean ====
/- The kernel body run once at any grid point: which contents it leaves in the output block and in the decoded weights,
   in each of the four cases of its two conditions. -/
module

public import proofs.«01_k».proof.Proof.KKit
public import Idealize.ShloMosaic.Lib.Pipeline.Value
public import Idealize.ShloMosaic.Lib.WholeRead
public import Idealize.ShloMosaic.Lib.VecWindow

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the experts' table at the point of `i`. -/
abbrev wdE (c : Dev nD) (i : grid0.Coords) (xt1 : TbBuf0 (F := F) c tbM0_1) : BitVec 32 :=
  tbM0_1.view.readAt (Elt F) (Rect.unit (s := S151) (k0_off1 i) S1.size (k0_off1_inb i)).toLoadRect xt1 (Shape.Idx.first (numel1_S1.symm ▸ Nat.one_pos))
/-- The word of the experts' table at the point before that of `i` (at the first point, at that point). -/
abbrev wdEp (c : Dev nD) (i : grid0.Coords) (xt1 : TbBuf0 (F := F) c tbM0_1) : BitVec 32 :=
  tbM0_1.view.readAt (Elt F) (Rect.unit (s := S151) (k0_off2 i) S1.size (k0_off2_inb i)).toLoadRect xt1 (Shape.Idx.first (numel1_S1.symm ▸ Nat.one_pos))
/-- The word of the first-row table at the point of `i`. -/
abbrev wdL (c : Dev nD) (i : grid0.Coords) (xt2 : TbBuf0 (F := F) c tbM0_2) : BitVec 32 :=
  tbM0_2.view.readAt (Elt F) (Rect.unit (s := S151) (k0_off3 i) S1.size (k0_off3_inb i)).toLoadRect xt2 (Shape.Idx.first (numel1_S1.symm ▸ Nat.one_pos))

/-- The output block computed from a token block and the decoded weights. -/
def freshOut (x0 : Vec F S512x3072 .bf16) (w : Vec F S3072x1024 .fp8e5m2) : Vec F S512x1024 .bf16 :=
  k0_pay1 (k0_pay5 x0) (k0_pay6 x0) (k0_pay7 x0) w

/-- The output block with its first `lo` rows taken from what was there before. -/
def mergeOut (lo : BitVec 32) (x0 : Vec F S512x3072 .bf16) (w : Vec F S3072x1024 .fp8e5m2) (y : Vec F S512x1024 .bf16) :
    Vec F S512x1024 .bf16 :=
  k0_pay2 (F := F) lo (k0_pay4 y) (freshOut x0 w)

/-- A load of a whole buffer through the rectangle of its own sizes reads what it holds. -/
theorem ld_whole {sp : Space} {s : Shape} {e : EltTy} {arg : Memref sig .tc sp s e} (h : arg.IsWhole) (X : s.Idx → Elt F e)
    {off : Fin s.rank → ℕ} (inb : ∀ a, off a + s.size a ≤ s.size a) :
    arg.view.readAt (Elt F) (Rect.unit off s.size inb).toLoadRect (h.unread X) = X := by
  rw [View.readAt_full, h.read_unread]

theorem ld_S512x3072 {arg : Memref sig .tc .vmem S512x3072 .bf16} (h : arg.IsWhole) (X : S512x3072.Idx → Elt F .bf16) :
    arg.view.readAt (Elt F) (Rect.unit (s := S512x3072) ![0, 0] ![512, 3072] inb_S512x3072_S512x3072_0_0).toLoadRect (h.unread X) = X := ld_whole h X _
theorem ld_S1x1536x1024 {arg : Memref sig .tc .vmem S1x1536x1024 .i8} (h : arg.IsWhole) (X : S1x1536x1024.Idx → Elt F .i8) :
    arg.view.readAt (Elt F) (Rect.unit (s := S1x1536x1024) ![0, 0, 0] ![1, 1536, 1024] inb_S1x1536x1024_S1x1536x1024_0_0_0).toLoadRect (h.unread X) = X := ld_whole h X _
theorem ld_S1x96x1024 {arg : Memref sig .tc .vmem S1x96x1024 .f32} (h : arg.IsWhole) (X : S1x96x1024.Idx → Elt F .f32) :
    arg.view.readAt (Elt F) (Rect.unit (s := S1x96x1024) ![0, 0, 0] ![1, 96, 1024] inb_S1x96x1024_S1x96x1024_0_0_0).toLoadRect (h.unread X) = X := ld_whole h X _
theorem ld_S3072x1024 {arg : Memref sig .tc .vmem S3072x1024 .fp8e5m2} (h : arg.IsWhole) (X : S3072x1024.Idx → Elt F .fp8e5m2) :
    arg.view.readAt (Elt F) (Rect.unit (s := S3072x1024) ![0, 0] ![3072, 1024] inb_S3072x1024_S3072x1024_0_0).toLoadRect (h.unread X) = X := ld_whole h X _
theorem cov_S3072x1024 (v : View sig .tc .vmem S3072x1024 .fp8e5m2) (w : S3072x1024.Idx → Elt F .fp8e5m2) (L : List (View.Piece (Elt F) S3072x1024 .fp8e5m2)) :
    v.readCov ((⟨(Rect.unit (s := S3072x1024) ![0, 0] ![3072, 1024] inb_S3072x1024_S3072x1024_0_0), w⟩ : View.Piece (Elt F) S3072x1024 .fp8e5m2) :: L) (Rect.unit (s := S3072x1024) ![0, 0] ![3072, 1024] inb_S3072x1024_S3072x1024_0_0).toLoadRect = w := View.readCov_full v _ _ w L
theorem wr_S3072x1024 (v : View sig .tc .vmem S3072x1024 .fp8e5m2) (f : v.ty.Contents (Elt F)) (w : S3072x1024.Idx → Elt F .fp8e5m2) (L : List (View.Piece (Elt F) S3072x1024 .fp8e5m2)) :
    v.read (Elt F) (v.writes (Elt F) f ((⟨(Rect.unit (s := S3072x1024) ![0, 0] ![3072, 1024] inb_S3072x1024_S3072x1024_0_0), w⟩ : View.Piece (Elt F) S3072x1024 .fp8e5m2) :: L)) = w := View.read_writes_full v f _ w L
theorem ld_S512x1024 {arg : Memref sig .tc .vmem S512x1024 .bf16} (h : arg.IsWhole) (X : S512x1024.Idx → Elt F .bf16) :
    arg.view.readAt (Elt F) (Rect.unit (s := S512x1024) ![0, 0] ![512, 1024] inb_S512x1024_S512x1024_0_0).toLoadRect (h.unread X) = X := ld_whole h X _
theorem cov_S512x1024 (v : View sig .tc .vmem S512x1024 .bf16) (w : S512x1024.Idx → Elt F .bf16) (L : List (View.Piece (Elt F) S512x1024 .bf16)) :
    v.readCov ((⟨(Rect.unit (s := S512x1024) ![0, 0] ![512, 1024] inb_S512x1024_S512x1024_0_0), w⟩ : View.Piece (Elt F) S512x1024 .bf16) :: L) (Rect.unit (s := S512x1024) ![0, 0] ![512, 1024] inb_S512x1024_S512x1024_0_0).toLoadRect = w := View.readCov_full v _ _ w L
theorem wr_S512x1024 (v : View sig .tc .vmem S512x1024 .bf16) (f : v.ty.Contents (Elt F)) (w : S512x1024.Idx → Elt F .bf16) (L : List (View.Piece (Elt F) S512x1024 .bf16)) :
    v.read (Elt F) (v.writes (Elt F) f ((⟨(Rect.unit (s := S512x1024) ![0, 0] ![512, 1024] inb_S512x1024_S512x1024_0_0), w⟩ : View.Piece (Elt F) S512x1024 .bf16) :: L)) = w := View.read_writes_full v f _ w L

set_option maxHeartbeats 1000000 in
/-- The body where the weights are decoded afresh and the block is merged with what it held. -/
theorem run_TT (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (xt0 : TbBuf0 (F := F) c tbM0_0) (xt1 : TbBuf0 (F := F) c tbM0_1) (xt2 : TbBuf0 (F := F) c tbM0_2)
    (hc0 : cond0_0 i (wdE c i xt1) (wdEp c i xt1)) (hc1 : cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (mergeOut (wdL c i xt2) x0 (k0_pay3 x1 x2) y) ∗ owns (c : Thread nD τ) arg8 fullShare (k0_pay3 x1 x2) ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold mergeOut freshOut
    try unfold run_TT.sl.H3_2
    try unfold run_TT.sl.H3_1
    try unfold run_TT.sl.v75
    try unfold run_TT.sl.v77
    try unfold run_TT.sl.H3_1
    try unfold run_TT.sl.v77
    try unfold run_TT.sl.v82
    try unfold run_TT.sl.v68
    try unfold run_TT.sl.HS1_1
    try unfold run_TT.sl.r_2
    try unfold run_TT.sl.r_3
    try unfold run_TT.sl.r_4
    try unfold run_TT.sl.r_5
    try unfold run_TT.sl.v63
    try unfold run_TT.sl.HS0_1
    try unfold run_TT.sl.v72
    try unfold run_TT.sl.v88
    try unfold run_TT.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    try unfold run_TT.sl.HS0_1
    try unfold run_TT.sl.v72
    try unfold run_TT.sl.v88
    simp only [ld_S512x3072, ld_S1x1536x1024, ld_S1x96x1024, ld_S3072x1024, cov_S3072x1024, wr_S3072x1024, ld_S512x1024, cov_S512x1024, wr_S512x1024]
  isplitl [HS1]
  · iexists _, _; isplitr; swap; · iexact HS1
    ipureintro; rfl
  isplitl [HT0]; · iexact HT0
  isplitl [HT1]; · iexact HT1
  iexact HT2

set_option maxHeartbeats 1000000 in
/-- The body where the weights are decoded afresh and the block is written whole. -/
theorem run_TF (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (xt0 : TbBuf0 (F := F) c tbM0_0) (xt1 : TbBuf0 (F := F) c tbM0_1) (xt2 : TbBuf0 (F := F) c tbM0_2)
    (hc0 : cond0_0 i (wdE c i xt1) (wdEp c i xt1)) (hc1 : ¬ cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (freshOut x0 (k0_pay3 x1 x2)) ∗ owns (c : Thread nD τ) arg8 fullShare (k0_pay3 x1 x2) ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold freshOut
    try unfold run_TF.sl.H3_2
    try unfold run_TF.sl.H3_1
    try unfold run_TF.sl.v75
    try unfold run_TF.sl.v77
    try unfold run_TF.sl.H3_1
    try unfold run_TF.sl.v77
    try unfold run_TF.sl.v82
    try unfold run_TF.sl.v68
    try unfold run_TF.sl.HS1_1
    try unfold run_TF.sl.r_2
    try unfold run_TF.sl.r_3
    try unfold run_TF.sl.r_4
    try unfold run_TF.sl.r_5
    try unfold run_TF.sl.v63
    try unfold run_TF.sl.HS0_1
    try unfold run_TF.sl.v72
    try unfold run_TF.sl.v88
    try unfold run_TF.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    try unfold run_TF.sl.HS0_1
    try unfold run_TF.sl.v72
    try unfold run_TF.sl.v88
    simp only [ld_S512x3072, ld_S1x1536x1024, ld_S1x96x1024, ld_S3072x1024, cov_S3072x1024, wr_S3072x1024, ld_S512x1024, cov_S512x1024, wr_S512x1024]
  isplitl [HS1]
  · iexists _, _; isplitr; swap; · iexact HS1
    ipureintro; rfl
  isplitl [HT0]; · iexact HT0
  isplitl [HT1]; · iexact HT1
  iexact HT2

set_option maxHeartbeats 1000000 in
/-- The body where the weights are those decoded before and the block is merged with what it held. -/
theorem run_FT (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (w : Vec F S3072x1024 .fp8e5m2) (xt0 : TbBuf0 (F := F) c tbM0_0) (xt1 : TbBuf0 (F := F) c tbM0_1) (xt2 : TbBuf0 (F := F) c tbM0_2)
    (hc0 : ¬ cond0_0 i (wdE c i xt1) (wdEp c i xt1)) (hc1 : cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ owns (c : Thread nD τ) arg8 fullShare w ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (mergeOut (wdL c i xt2) x0 w y) ∗ owns (c : Thread nD τ) arg8 fullShare w ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  obtain rfl := harg8.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold mergeOut freshOut
    try unfold run_FT.sl.H3_2
    try unfold run_FT.sl.H3_1
    try unfold run_FT.sl.v75
    try unfold run_FT.sl.v77
    try unfold run_FT.sl.H3_1
    try unfold run_FT.sl.v77
    try unfold run_FT.sl.v82
    try unfold run_FT.sl.v68
    try unfold run_FT.sl.HS1_1
    try unfold run_FT.sl.r_2
    try unfold run_FT.sl.r_3
    try unfold run_FT.sl.r_4
    try unfold run_FT.sl.r_5
    try unfold run_FT.sl.v63
    try unfold run_FT.sl.HS0_1
    try unfold run_FT.sl.v72
    try unfold run_FT.sl.v88
    try unfold run_FT.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    exact harg8.read_unread _
  isplitl [HS1]
  · iexists _, _; isplitr; swap; · iexact HS1
    ipureintro; rfl
  isplitl [HT0]; · iexact HT0
  isplitl [HT1]; · iexact HT1
  iexact HT2

set_option maxHeartbeats 1000000 in
/-- The body where the weights are those decoded before and the block is written whole. -/
theorem run_FF (c : Dev nD) (i : grid0.Coords) (arg4 : Memref sig .tc .vmem S512x3072 .bf16) (harg4 : arg4.IsWhole) (arg5 : Memref sig .tc .vmem S1x1536x1024 .i8) (harg5 : arg5.IsWhole) (arg6 : Memref sig .tc .vmem S1x96x1024 .f32) (harg6 : arg6.IsWhole) (arg7 : Memref sig .tc .vmem S512x1024 .bf16) (harg7 : arg7.IsWhole) (arg8 : Memref sig .tc .vmem S3072x1024 .fp8e5m2) (harg8 : arg8.IsWhole) (arg9 : Memref sig .tc .vmem S512x1024 .bf16) (harg9 : arg9.IsWhole)
    (x0 : Vec F S512x3072 .bf16) (x1 : Vec F S1x1536x1024 .i8) (x2 : Vec F S1x96x1024 .f32) (y : Vec F S512x1024 .bf16) (w : Vec F S3072x1024 .fp8e5m2) (xt0 : TbBuf0 (F := F) c tbM0_0) (xt1 : TbBuf0 (F := F) c tbM0_1) (xt2 : TbBuf0 (F := F) c tbM0_2)
    (hc0 : ¬ cond0_0 i (wdE c i xt1) (wdEp c i xt1)) (hc1 : ¬ cond0_1 i (wdL c i xt2)) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare y ∗ owns (c : Thread nD τ) arg8 fullShare w ∗ (∃ d, owns (c : Thread nD τ) arg9 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare (freshOut x0 w) ∗ owns (c : Thread nD τ) arg8 fullShare w ∗ (∃ d, owns (c : Thread nD τ) arg9 fullShare d) ∗ tbPt0 c tbM0_0 xt0 ∗ tbPt0 c tbM0_1 xt1 ∗ tbPt0 c tbM0_2 xt2) -∗ K ⟨⟩))
      ⊢ wp frame (wpE (defs₀ (F := F)) Variants.none c none) E (cc0_moe_dgrad i tbM0_0 htbM0_0 tbM0_1 htbM0_1 tbM0_2 htbM0_2 arg4 harg4 arg5 harg5 arg6 harg6 arg7 harg7 arg8 harg8 arg9 harg9) K := by
  simp only [cc0_moe_dgrad_eq_skeleton]; unfold cc0_moe_dgrad_skel
  simp only [k0_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, HT0, HT1, HT2, Hk⟩
  obtain rfl := harg4.eq_unread hf0; obtain rfl := harg5.eq_unread hf1; obtain rfl := harg6.eq_unread hf2; obtain rfl := harg7.eq_unread hf3
  obtain rfl := harg8.eq_unread hfs0
  sl_exec (disch := first | sl_exact hc0 | sl_exact hc1)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    unfold freshOut
    try unfold run_FF.sl.H3_2
    try unfold run_FF.sl.H3_1
    try unfold run_FF.sl.v75
    try unfold run_FF.sl.v77
    try unfold run_FF.sl.H3_1
    try unfold run_FF.sl.v77
    try unfold run_FF.sl.v82
    try unfold run_FF.sl.v68
    try unfold run_FF.sl.HS1_1
    try unfold run_FF.sl.r_2
    try unfold run_FF.sl.r_3
    try unfold run_FF.sl.r_4
    try unfold run_FF.sl.r_5
    try unfold run_FF.sl.v63
    try unfold run_FF.sl.HS0_1
    try unfold run_FF.sl.v72
    try unfold run_FF.sl.v88
    try unfold run_FF.sl.v16
    simp only [ld_S512x3072, ld_S1x1536x1024, ld_S1x96x1024, ld_S3072x1024, cov_S3072x1024, wr_S3072x1024, ld_S512x1024, cov_S512x1024, wr_S512x1024]
    try rfl
  isplitl [HS0]
  · iexists _; isplitr; swap; · iexact HS0
    ipureintro
    exact harg8.read_unread _
  isplitl [HS1]
  · iexists _, _; isplitr; swap; · iexact HS1
    ipureintro; rfl
  isplitl [HT0]; · iexact HT0
  isplitl [HT1]; · iexact HT1
  iexact HT2

end Cert.Kernel.Kit

end
-- ==== Proof.KLaunch.lean ====
/- The kernel's launch: what the body may leave in the output block at a grid point, told from what it found there; the
   decoded weights carried from point to point; and the run of the whole program over that account. -/
module

public import proofs.«01_k».proof.Proof.KRun
public import Idealize.ShloMosaic.Lib.Pipeline.ArrRel
public import Idealize.ShloMosaic.Lib.Pipeline.Covers

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile of the point `t`, as a word of its table. -/
def tileW (i : grid0.Coords) : BitVec 32 := (tbl m).at 0 (Rect.unit (s := S151) (k0_off1 i) S1.size (k0_off1_inb i)) numel1_S1
/-- The expert of the point `t`, as a word of its table. -/
def expW (i : grid0.Coords) : BitVec 32 := (tbl m).at 1 (Rect.unit (s := S151) (k0_off1 i) S1.size (k0_off1_inb i)) numel1_S1

theorem wdE_eq (c : Dev nD) (i : grid0.Coords) : wdE c i (tbl m 1) = expW m i := rfl

theorem index_0 (hO : Ok m) (t : Fin (cfgM m hO).N) : ((cfgM m hO).win 0).index t = ![(tileW m (grid0.coords t)).toNat, 0] := rfl
theorem index_1 (hO : Ok m) (t : Fin (cfgM m hO).N) : ((cfgM m hO).win 1).index t = ![(expW m (grid0.coords t)).toNat, 0, 0] := rfl
theorem index_2 (hO : Ok m) (t : Fin (cfgM m hO).N) : ((cfgM m hO).win 2).index t = ![(expW m (grid0.coords t)).toNat, 0, 0] := rfl
theorem index_3 (hO : Ok m) (t : Fin (cfgM m hO).N) : ((cfgM m hO).win 3).index t = ![(tileW m (grid0.coords t)).toNat, 0] := rfl

theorem iblk_1_emb (hO : Ok m) (c : Dev nD) (t : Fin (cfgM m hO).N) (x : S1x1536x1024.Idx) :
    iblk m hO c 1 t x = V m c main_v55 ((((cfgM m hO).win 1).rect t).emb x) := rfl

/-- An array index of a window's block: the block's offset plus the index inside the block. -/
theorem rect_emb_val (hO : Ok m) (w : Fin (cfgM m hO).W) (t : Fin (cfgM m hO).N) (x : (((cfgM m hO).win w).rect t).shape.Idx)
    (a : Fin ((cfgM m hO).win w).shape.rank) :
    ((((cfgM m hO).win w).rect t).emb x a).val = ((cfgM m hO).win w).index t a * ((cfgM m hO).win w).size a + (x a).val := by
  show _ + 1 * (x a).val = _
  rw [Nat.one_mul]; rfl

theorem iblk_0_emb (hO : Ok m) (c : Dev nD) (t : Fin (cfgM m hO).N) (x : S512x3072.Idx) :
    iblk m hO c 0 t x = V m c main_arg0 ((((cfgM m hO).win 0).rect t).emb x) := rfl
theorem iblk_2_emb (hO : Ok m) (c : Dev nD) (t : Fin (cfgM m hO).N) (x : S1x96x1024.Idx) :
    iblk m hO c 2 t x = V m c main_v56 ((((cfgM m hO).win 2).rect t).emb x) := rfl

/-- The weights decoded at the point `t`. -/
def dec (hO : Ok m) (c : Dev nD) (t : Fin (cfgM m hO).N) : Vec F S3072x1024 .fp8e5m2 :=
  k0_pay3 (iblk m hO c 1 t) (iblk m hO c 2 t)

/-- Two points with one expert decode the same weights. -/
theorem dec_congr (hO : Ok m) (c : Dev nD) (t t' : Fin (cfgM m hO).N)
    (h : expW m (grid0.coords t) = expW m (grid0.coords t')) : dec m hO c t = dec m hO c t' := by
  have e1 : (iblk m hO c 1 t : Vec F S1x1536x1024 .i8) = iblk m hO c 1 t' := by
    funext x
    refine (iblk_1_emb m hO c t x).trans (Eq.trans ?_ (iblk_1_emb m hO c t' x).symm)
    refine congrArg _ (funext fun a => Fin.ext ?_)
    refine (rect_emb_val m hO 1 t x a).trans (Eq.trans ?_ (rect_emb_val m hO 1 t' x a).symm)
    rw [index_1 m hO t, index_1 m hO t', h]
  have e2 : (iblk m hO c 2 t : Vec F S1x96x1024 .f32) = iblk m hO c 2 t' := by
    funext x
    refine (iblk_2_emb m hO c t x).trans (Eq.trans ?_ (iblk_2_emb m hO c t' x).symm)
    refine congrArg _ (funext fun a => Fin.ext ?_)
    refine (rect_emb_val m hO 2 t x a).trans (Eq.trans ?_ (rect_emb_val m hO 2 t' x a).symm)
    rw [index_2 m hO t, index_2 m hO t', h]
  unfold dec
  exact congrArg₂ k0_pay3 e1 e2

open Classical in
/-- What the body leaves in the output block at the point `t`, of what it found there. -/
def stepOut (hO : Ok m) (c : Dev nD) (t : Fin (cfgM m hO).N) (y : Vec F S512x1024 .bf16) : Vec F S512x1024 .bf16 :=
  if cond0_1 (grid0.coords t) (wdL c (grid0.coords t) (tbl m 2)) then
    mergeOut (wdL c (grid0.coords t) (tbl m 2)) (iblk m hO c 0 t) (dec m hO c t) y
  else freshOut (iblk m hO c 0 t) (dec m hO c t)

end Cert.Kernel.Kit

end
-- ==== Proof.KDat.lean ====
/- The proof data of the pipeline: what the body may leave in each window, and that it leaves it. -/
module

public import proofs.«01_k».proof.Proof.KLaunch
public import Idealize.ShloMosaic.Lib.Pipeline.ArrRel
public import Idealize.ShloMosaic.Lib.Pipeline.Covers

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The decoded weights' buffer before point `n`: after the first point, what the point before decoded. -/
def wOwn (hO : Ok m) (c : Dev nD) (n : ℕ) : sProp 𝕄 :=
  iprop(∃ d : Vec F S3072x1024 .fp8e5m2, ⌜∀ s : Fin (cfgM m hO).N, s.val + 1 = n → d = dec m hO c s⌝ ∗ owns (c : Thread nD τ) scM0_0 fullShare d)

/-- The proof data: each input's block stays; the output block is `stepOut` of what was found; the decoded weights are
    carried. -/
def rdat (hO : Ok m) (c : Dev nD) : Pipeline.RDat τ (Elt F) Unit ℕ (UR sig nD τ) ℕ (cfgM m hO) c where
  A w := V m c (Pipeline.arrRef spec0 w)
  after w t Y X := match w with
    | ⟨0, _⟩ => X = iblk m hO c 0 t
    | ⟨1, _⟩ => X = iblk m hO c 1 t
    | ⟨2, _⟩ => X = iblk m hO c 2 t
    | ⟨3, _⟩ => X = stepOut m hO c t Y
  Φ t := iprop(iprop(iprop(wOwn m hO c t.val ∗ (∃ d, owns (c : Thread nD τ) scM0_1 fullShare d)) ∗ (∃ r, prngReg c r)) ∗ Pipeline.ΦT pre0 (tbl m) c)
  q _ := fullShare
  owed _ := 0

/-- Exact proof data with the same inputs, from which what the body finds in an input is read. -/
def datIn (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(emp)
  q _ := fullShare
  owed _ := 0

theorem rdat_A (hO : Ok m) (c : Dev nD) (w : Fin (cfgM m hO).W) : (rdat m hO c).A w = V m c (Pipeline.arrRef spec0 w) := by
  dsimp only [rdat]
theorem datIn_A (hO : Ok m) (c : Dev nD) (w : Fin (cfgM m hO).W) : (datIn m hO c).A w = V m c (Pipeline.arrRef spec0 w) := by
  dsimp only [datIn]

theorem leaves_live {cfg : Cfg sig Λ₀} {c : Dev nD} (dat : Dat τ (Elt F) Unit ℕ (UR sig nD τ) ℕ cfg c) (w : Fin cfg.W) (t : Fin cfg.N)
    (X : (cfg.win w).block.Idx → Elt F (cfg.win w).elt) (hi : cfg.idle w (cfg.grid.coords t) = false) (hl : cfg.loose w = false) :
    dat.Leaves w t X = (X = dat.after w t) := by
  unfold Dat.Leaves; rw [hi]; dsimp only; rw [hl]

theorem after_0 (hO : Ok m) (c : Dev nD) : (rdat m hO c).after 0 = (datIn m hO c).toR.after 0 := by
  funext t Y X
  refine Eq.trans ?_ (leaves_live (datIn m hO c) 0 t X rfl rfl).symm
  dsimp only [rdat, datIn]
  rfl
/-- What the body finds in input 0: its block. -/
theorem finds_0 (hO : Ok m) (c : Dev nD) (t : Fin (cfgM m hO).N) (Y) (h : (rdat m hO c).Finds 0 t Y) : Y = iblk m hO c 0 t := by
  have h' := (Pipeline.RDat.finds_congr (rd := (datIn m hO c).toR) (rd' := rdat m hO c) (w := 0)
    ((rdat_A m hO c 0).trans (datIn_A m hO c 0).symm) (after_0 m hO c) t Y).mp h
  obtain ⟨d, rfl⟩ := (datIn m hO c).toR_finds 0 t Y h'
  exact before0_0_of m hO (datIn m hO c) (datIn_A m hO c 0) (fun _ => by dsimp only [datIn]; rfl) t d
theorem after_1 (hO : Ok m) (c : Dev nD) : (rdat m hO c).after 1 = (datIn m hO c).toR.after 1 := by
  funext t Y X
  refine Eq.trans ?_ (leaves_live (datIn m hO c) 1 t X rfl rfl).symm
  dsimp only [rdat, datIn]
  rfl
/-- What the body finds in input 1: its block. -/
theorem finds_1 (hO : Ok m) (c : Dev nD) (t : Fin (cfgM m hO).N) (Y) (h : (rdat m hO c).Finds 1 t Y) : Y = iblk m hO c 1 t := by
  have h' := (Pipeline.RDat.finds_congr (rd := (datIn m hO c).toR) (rd' := rdat m hO c) (w := 1)
    ((rdat_A m hO c 1).trans (datIn_A m hO c 1).symm) (after_1 m hO c) t Y).mp h
  obtain ⟨d, rfl⟩ := (datIn m hO c).toR_finds 1 t Y h'
  exact before0_1_of m hO (datIn m hO c) (datIn_A m hO c 1) (fun _ => by dsimp only [datIn]; rfl) t d
theorem after_2 (hO : Ok m) (c : Dev nD) : (rdat m hO c).after 2 = (datIn m hO c).toR.after 2 := by
  funext t Y X
  refine Eq.trans ?_ (leaves_live (datIn m hO c) 2 t X rfl rfl).symm
  dsimp only [rdat, datIn]
  rfl
/-- What the body finds in input 2: its block. -/
theorem finds_2 (hO : Ok m) (c : Dev nD) (t : Fin (cfgM m hO).N) (Y) (h : (rdat m hO c).Finds 2 t Y) : Y = iblk m hO c 2 t := by
  have h' := (Pipeline.RDat.finds_congr (rd := (datIn m hO c).toR) (rd' := rdat m hO c) (w := 2)
    ((rdat_A m hO c 2).trans (datIn_A m hO c 2).symm) (after_2 m hO c) t Y).mp h
  obtain ⟨d, rfl⟩ := (datIn m hO c).toR_finds 2 t Y h'
  exact before0_2_of m hO (datIn m hO c) (datIn_A m hO c 2) (fun _ => by dsimp only [datIn]; rfl) t d

end Cert.Kernel.Kit

end
-- ==== Proof.KBody.lean ====
/- The body does, at every grid point, what the proof data say of it. -/
module

public import proofs.«01_k».proof.Proof.KDat
public import Idealize.ShloMosaic.Lib.Pipeline.ArrRel
public import Idealize.ShloMosaic.Lib.Pipeline.Covers

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem off2_all : ∀ k : Fin 150, k0_off2 (grid0.coords (k.succ : Fin 151)) = k0_off1 (grid0.coords (k.castSucc : Fin 151)) := by
  decide

/-- The word before that of the point `t`, for a later point than the first: the word of the point before. -/
theorem wdEp_eq (hO : Ok m) (c : Dev nD) (t t' : Fin (cfgM m hO).N) (h : t'.val + 1 = t.val) :
    wdEp c (grid0.coords t) (tbl m 1) = expW m (grid0.coords t') := by
  have key : ∀ (off off' : Fin 1 → ℕ) (hi : ∀ a, off a + S1.size a ≤ S151.size a) (hi' : ∀ a, off' a + S1.size a ≤ S151.size a), off = off' →
      tbM0_1.view.readAt (Elt F) (Rect.unit (s := S151) off S1.size hi).toLoadRect (tbl m 1) (Shape.Idx.first (numel1_S1.symm ▸ Nat.one_pos))
        = tbM0_1.view.readAt (Elt F) (Rect.unit (s := S151) off' S1.size hi').toLoadRect (tbl m 1) (Shape.Idx.first (numel1_S1.symm ▸ Nat.one_pos)) := by
    intro off off' hi hi' e; subst e; rfl
  have e : k0_off2 (grid0.coords t) = k0_off1 (grid0.coords t') := by
    have hlt : t'.val < 150 := by have := t.isLt; have : (cfgM m hO).N = 151 := rfl; omega
    have e1 : t = ((⟨t'.val, hlt⟩ : Fin 150).succ : Fin 151) := Fin.ext h.symm
    have e2 : t' = ((⟨t'.val, hlt⟩ : Fin 150).castSucc : Fin 151) := Fin.ext rfl
    exact (congrArg (fun x => k0_off2 (grid0.coords x)) e1).trans ((off2_all _).trans (congrArg (fun x => k0_off1 (grid0.coords x)) e2).symm)
  exact (key _ _ _ (k0_off1_inb (grid0.coords t')) e).trans (wdE_eq m c _)

/-- Where the weights are not decoded afresh, the point is not the first and the expert is that of the point before. -/
theorem not_cond0 (i : grid0.Coords) (v1 v5 : BitVec 32) (h : ¬ cond0_0 i v1 v5) : (i 0).val ≠ 0 ∧ v1 = v5 := by
  unfold cond0_0 Scalar.cmpi Scalar.extui Scalar.ori at h
  rw [WordCmp.cmpi_eq_eq, WordCmp.cmpi_ne_eq, WordCmp.cmpi_ne_eq] at h
  by_cases h0 : BitVec.ofNat 32 (i 0).val = 0#32 <;> by_cases e : v1 = v5
  · rw [decide_eq_true h0, decide_eq_false (not_not.mpr e)] at h; exact absurd (by decide) h
  · rw [decide_eq_true h0, decide_eq_true e] at h; exact absurd (by decide) h
  · exact ⟨fun h1 => h0 (by rw [h1]), e⟩
  · rw [decide_eq_false h0, decide_eq_true e] at h; exact absurd (by decide) h

theorem coords_val : ∀ t : Fin 151, (grid0.coords t 0).val = t.val := by decide

/-- What the body is called with at point `t`, the inputs' blocks and the output's contents named. -/
def bodyPre (hO : Ok m) (c : Dev nD) (t : Fin (cfgM m hO).N) (y : Vec F S512x1024 .bf16) : sProp 𝕄 :=
  iprop((rdat m hO c).Φ t.castSucc ∗ (rdat m hO c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare y)

/-- And what it returns. -/
def bodyPost (hO : Ok m) (c : Dev nD) (t : Fin (cfgM m hO).N) (y : Vec F S512x1024 .bf16) : sProp 𝕄 :=
  iprop((rdat m hO c).Φ t.succ ∗ (rdat m hO c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (stepOut m hO c t y))

theorem Phi_eq (hO : Ok m) (c : Dev nD) (t : Fin ((cfgM m hO).N + 1)) : (rdat m hO c).Φ t
    = iprop(iprop(iprop(wOwn m hO c t.val ∗ (∃ d, owns (c : Thread nD τ) scM0_1 fullShare d)) ∗ (∃ r, prngReg c r)) ∗ iprop(tbPt0 c tbM0_0 (tbl m 0) ∗ tbPt0 c tbM0_1 (tbl m 1) ∗ tbPt0 c tbM0_2 (tbl m 2))) := by
  rw [← PhiT0_eq]; dsimp only [rdat]

set_option maxHeartbeats 3200000 in
/-- The body at any point. -/
theorem sound_body (hO : Ok m) (c : Dev nD) (t : Fin (cfgM m hO).N) (y : Vec F S512x1024 .bf16) :
    bodyPre m hO c t y ⊢ wp frame (wpE (defs₀ (F := F)) Variants.none c none) Set.univ (bodyAt0 (adm m hO) t) (fun _ => bodyPost m hO c t y) := by
  unfold bodyPre bodyPost bodyAt0
  rw [show (rdat m hO c).owesAt () t.succ = (rdat m hO c).owesAt () t.castSucc from rfl]
  rw [Phi_eq, Phi_eq]
  unfold wOwn
  by_cases h0 : cond0_0 (grid0.coords t) (wdE c (grid0.coords t) (tbl m 1)) (wdEp c (grid0.coords t) (tbl m 1))
  · by_cases h1 : cond0_1 (grid0.coords t) (wdL c (grid0.coords t) (tbl m 2))
    · rw [show stepOut m hO c t y = _ from if_pos h1]
      iintro ⟨⟨⟨⟨⟨%w0, %hw0, HS0⟩, HS1⟩, Hg⟩, ⟨HT0, HT1, HT2⟩⟩, Ho, H0, H1, H2, H3⟩
      iapply (run_TT c (grid0.coords t) _ _ _ _ _ _ _ _ _ _ _ _ (iblk m hO c 0 t) (iblk m hO c 1 t) (iblk m hO c 2 t) y (tbl m 0) (tbl m 1) (tbl m 2) h0 h1 Set.univ _)
      isplitl [H0]; · iexact H0
      isplitl [H1]; · iexact H1
      isplitl [H2]; · iexact H2
      isplitl [H3]; · iexact H3
      isplitl [HS0]; · iexists _; iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [show stepOut m hO c t y = _ from if_neg h1]
      iintro ⟨⟨⟨⟨⟨%w0, %hw0, HS0⟩, HS1⟩, Hg⟩, ⟨HT0, HT1, HT2⟩⟩, Ho, H0, H1, H2, H3⟩
      iapply (run_TF c (grid0.coords t) _ _ _ _ _ _ _ _ _ _ _ _ (iblk m hO c 0 t) (iblk m hO c 1 t) (iblk m hO c 2 t) y (tbl m 0) (tbl m 1) (tbl m 2) h0 h1 Set.univ _)
      isplitl [H0]; · iexact H0
      isplitl [H1]; · iexact H1
      isplitl [H2]; · iexact H2
      isplitl [H3]; · iexact H3
      isplitl [HS0]; · iexists _; iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
  · obtain ⟨hne, heq⟩ := not_cond0 _ _ _ h0
    have hpos : t.val ≠ 0 := fun e => hne ((coords_val t).trans e)
    obtain ⟨t', ht'⟩ : ∃ t' : Fin (cfgM m hO).N, t'.val + 1 = t.val := ⟨⟨t.val - 1, by have := t.isLt; omega⟩, by show t.val - 1 + 1 = t.val; omega⟩
    have hdec : expW m (grid0.coords t') = expW m (grid0.coords t) := ((wdE_eq m c _).symm.trans (heq.trans (wdEp_eq m hO c t t' ht'))).symm
    by_cases h1 : cond0_1 (grid0.coords t) (wdL c (grid0.coords t) (tbl m 2))
    · rw [show stepOut m hO c t y = _ from if_pos h1]
      iintro ⟨⟨⟨⟨⟨%w0, %hw0, HS0⟩, HS1⟩, Hg⟩, ⟨HT0, HT1, HT2⟩⟩, Ho, H0, H1, H2, H3⟩
      obtain rfl : w0 = dec m hO c t := (hw0 t' ht').trans (dec_congr m hO c t' t hdec)
      iapply (run_FT c (grid0.coords t) _ _ _ _ _ _ _ _ _ _ _ _ (iblk m hO c 0 t) (iblk m hO c 1 t) (iblk m hO c 2 t) y (dec m hO c t) (tbl m 0) (tbl m 1) (tbl m 2) h0 h1 Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · rw [show stepOut m hO c t y = _ from if_neg h1]
      iintro ⟨⟨⟨⟨⟨%w0, %hw0, HS0⟩, HS1⟩, Hg⟩, ⟨HT0, HT1, HT2⟩⟩, Ho, H0, H1, H2, H3⟩
      obtain rfl : w0 = dec m hO c t := (hw0 t' ht').trans (dec_congr m hO c t' t hdec)
      iapply (run_FF c (grid0.coords t) _ _ _ _ _ _ _ _ _ _ _ _ (iblk m hO c 0 t) (iblk m hO c 1 t) (iblk m hO c 2 t) y (dec m hO c t) (tbl m 0) (tbl m 1) (tbl m 2) h0 h1 Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 Hg HT0 HT1 HT2]
      · isplitl [HS0 HS1 Hg]
        · isplitl [HS0 HS1]
          · isplitl [HS0]
            · iexists (dec m hO c t); isplitr; · ipureintro; intro s hs; exact congrArg (dec m hO c) (Fin.ext (by simpa using hs.symm))
              iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      iexact H3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem after_in (hO : Ok m) (c : Dev nD) (t : Fin (cfgM m hO).N) (Y0 Y1 Y2 Y3) :
    (rdat m hO c).after 0 t Y0 (iblk m hO c 0 t) ∧ (rdat m hO c).after 1 t Y1 (iblk m hO c 1 t)
      ∧ (rdat m hO c).after 2 t Y2 (iblk m hO c 2 t) ∧ (rdat m hO c).after 3 t Y3 (stepOut m hO c t Y3) := by
  dsimp only [rdat]; exact ⟨rfl, rfl, rfl, rfl⟩

/-- The body obligation, at every point. -/
theorem body_obligation (hO : Ok m) (c : Dev nD) : (rdat (F := F) m hO c).BodyObligation (defs₀ (F := F)) Variants.none () Set.univ := by
  intro t Y hY
  have e0 := finds_0 m hO c t (Y 0) (hY 0)
  have e1 := finds_1 m hO c t (Y 1) (hY 1)
  have e2 := finds_2 m hO c t (Y 2) (hY 2)
  rw [bigSep_W0, bigSep_W0, defs₀_row m hO]
  refine triple_restated (sound_body m hO c t (Y 3)) rfl ?_ fun _ => ?_
  · unfold bodyPre; rw [e0, e1, e2]
  · obtain ⟨a0, a1, a2, a3⟩ := after_in m hO c t (Y 0) (Y 1) (Y 2) (Y 3)
    unfold bodyPost
    iintro ⟨HΦ, Ho, H0, H1, H2, H3⟩
    isplitl [HΦ]; · iexact HΦ
    isplitl [Ho]; · iexact Ho
    isplitl [H0]; · iexists _; isplitr; · ipureintro; exact a0
                    iexact H0
    isplitl [H1]; · iexists _; isplitr; · ipureintro; exact a1
                    iexact H1
    isplitl [H2]; · iexists _; isplitr; · ipureintro; exact a2
                    iexact H2
    iexists _; isplitr; · ipureintro; exact a3
    iexact H3

end Cert.Kernel.Kit

end
-- ==== Proof.KMain.lean ====
/- The run of the whole program over the proof data. -/
module

public import proofs.«01_k».proof.Proof.KBody
public import Idealize.ShloMosaic.Lib.Pipeline.ArrRel
public import Idealize.ShloMosaic.Lib.Pipeline.Covers
public import Idealize.ShloMosaic.Lib.Claim

@[expose] public section

set_option maxRecDepth 16384

noncomputable section

namespace Cert.Kernel.Kit

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem owed_ (hO : Ok m) (c : Dev nD) (t) : (rdat m hO c).owed t = 0 := by dsimp only [rdat]
theorem share_ (hO : Ok m) (c : Dev nD) (w) : (rdat m hO c).share w = fullShare :=
  (rdat m hO c).share_full (fun _ => by dsimp only [rdat]) w
theorem hin_ (hO : Ok m) (c : Dev nD) : iprop(Pipeline.ΦA spec0 c ∗ Pipeline.ΦT pre0 (tbl m) c) ⊢ (rdat m hO c).Φ 0 := by
  rw [Phi_eq, PhiT0_eq, PhiA0_eq]
  unfold wOwn
  iintro ⟨⟨⟨⟨%w, HS0⟩, HS1⟩, Hg⟩, HT⟩
  isplitr [HT]; swap; · iexact HT
  isplitr [Hg]; swap; · iexact Hg
  isplitr [HS1]; swap; · iexact HS1
  iexists w; isplitr
  · ipureintro; intro s hs; exact absurd hs (Nat.succ_ne_zero _)
  iexact HS0

theorem hout_ (hO : Ok m) (c : Dev nD) : (rdat m hO c).Φ (Fin.last _) ⊢ (Pipeline.ΦA spec0 c : sProp 𝕄) := by
  rw [Phi_eq, PhiA0_eq]
  unfold wOwn
  iintro ⟨⟨⟨⟨%w, %hw, HS0⟩, HS1⟩, Hg⟩, HT⟩
  isplitr [Hg]; swap; · iexact Hg
  isplitr [HS1]; swap; · iexact HS1
  iexists w; iexact HS0

set_option maxHeartbeats 3200000 in
-- the launch theorem's implicit arguments are found by unifying its conclusion with this one
set_option backward.isDefEq.respectTransparency.types false in
/-- The launch: every run ends as the proof data say, every semaphore counter at zero. -/
theorem run_main_quiescent (hO : Ok m) : θ_run defs (onTc (τ := τ) (main (F := F))) (s₀ m ρ) (fun r => (Pipeline.RDat.FramePost ((Pipeline.pin pcfgs fun _ => adm m hO) 0) (fun c => rdat m hO c) (V m)) r ∧ r.2.sem = fun _ => 0) :=
  Pipeline.RDat.θ_run_frameP_track (Q' := _) pcfgs (fun _ => adm m hO) (0 : Fin 1) launch0 defs₀ Variants.none (fun c => rdat m hO c) m ρ main
    (hbody := fun c => body_obligation m hO c) (hshare := share_ m hO)
    (howed := owed_ m hO) (V := V m) (hmain := hmain m Variants.none) (hA := rdat_A m hO) (hpf := V_pre m)
    (hin := fun c => hin_ m hO c) (hout := fun c => hout_ m hO c)

theorem run_main (hO : Ok m) : θ_run defs (onTc (τ := τ) (main (F := F))) (s₀ m ρ) (Pipeline.RDat.FramePost ((Pipeline.pin pcfgs fun _ => adm m hO) 0) (fun c => rdat m hO c) (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => rdat m hO c) (rdat_A m hO) (run_main m ρ hO)

/-- The frame: the argument arrays end unchanged and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Kit

end
-- ==== Proof.KTab.lean ====
/- The kernel's prefetched tables at a grid point, as naturals of the visit schedule, and the blocks they name inside
   their arrays. -/
module

public import proofs.«01_k».proof.Proof.KHost
public import proofs.«01_k».proof.Proof.KMain

@[expose] public section

set_option maxRecDepth 16384

noncomputable section

namespace Cert.Kernel.Kit

open Cert.Kernel.Gen
open Idealize.ShloMosaic Idealize.ShloMosaic.TcCoe Idealize.ShloMosaic.Tactic Idealize.ShloMosaic.ValueIdx
open Cert.Sched Cert.Tables

/-- A token block of a tile in range is inside the tokens, in whole words. -/
theorem blk_tok (n : ℕ) (ix : Fin 2 → ℕ) (e : ix = ![n, 0]) (h : n < 144) :
    ∃ h : (∀ a, (ix a + 1) * S512x3072.size a ≤ S73728x3072.size a), EltTy.bits .bf16 = 32 ∨ (Rect.block (s := S73728x3072) S512x3072.size ix h).WholeWords (EltTy.packing .bf16) := by
  subst e
  refine ⟨fun a => ?_, Or.inr (Or.inl (Or.inr ⟨by decide, rfl, Or.inl ⟨?_, ?_⟩⟩))⟩
  · match a with
    | ⟨0, _⟩ => show (n + 1) * 512 ≤ 73728; omega
    | ⟨1, _⟩ => show (0 + 1) * 3072 ≤ 3072; omega
  · show 2 ∣ n * 512; omega
  · show 2 ∣ 512; omega

/-- An output block of a tile in range is inside the output, in whole words. -/
theorem blk_out (n : ℕ) (ix : Fin 2 → ℕ) (e : ix = ![n, 0]) (h : n < 144) :
    ∃ h : (∀ a, (ix a + 1) * S512x1024.size a ≤ S73728x1024.size a), EltTy.bits .bf16 = 32 ∨ (Rect.block (s := S73728x1024) S512x1024.size ix h).WholeWords (EltTy.packing .bf16) := by
  subst e
  refine ⟨fun a => ?_, Or.inr (Or.inl (Or.inr ⟨by decide, rfl, Or.inl ⟨?_, ?_⟩⟩))⟩
  · match a with
    | ⟨0, _⟩ => show (n + 1) * 512 ≤ 73728; omega
    | ⟨1, _⟩ => show (0 + 1) * 1024 ≤ 1024; omega
  · show 2 ∣ n * 512; omega
  · show 2 ∣ 512; omega

/-- The packed weights of an expert in range are inside their array, in whole words. -/
theorem blk_w (n : ℕ) (ix : Fin 3 → ℕ) (e : ix = ![n, 0, 0]) (h : n < 8) :
    ∃ h : (∀ a, (ix a + 1) * S1x1536x1024.size a ≤ S8x1536x1024.size a), EltTy.bits .i8 = 32 ∨ (Rect.block (s := S8x1536x1024) S1x1536x1024.size ix h).WholeWords (EltTy.packing .i8) := by
  subst e
  refine ⟨fun a => ?_, Or.inr (Or.inr ⟨by decide, rfl, rfl, rfl⟩)⟩
  match a with
  | ⟨0, _⟩ => show (n + 1) * 1 ≤ 8; omega
  | ⟨1, _⟩ => show (0 + 1) * 1536 ≤ 1536; omega
  | ⟨2, _⟩ => show (0 + 1) * 1024 ≤ 1024; omega

/-- The scales of an expert in range are inside their array. -/
theorem blk_s (n : ℕ) (ix : Fin 3 → ℕ) (e : ix = ![n, 0, 0]) (h : n < 8) :
    ∃ h : (∀ a, (ix a + 1) * S1x96x1024.size a ≤ S8x96x1024.size a), EltTy.bits .f32 = 32 ∨ (Rect.block (s := S8x96x1024) S1x96x1024.size ix h).WholeWords (EltTy.packing .f32) := by
  subst e
  refine ⟨fun a => ?_, Or.inl rfl⟩
  match a with
  | ⟨0, _⟩ => show (n + 1) * 1 ≤ 8; omega
  | ⟨1, _⟩ => show (0 + 1) * 96 ≤ 96; omega
  | ⟨2, _⟩ => show (0 + 1) * 1024 ≤ 1024; omega

variable {F : FTy → Type} [FloatOps F]
variable (m : (ℓ : Loc nD τ sig) → Buf (Elt F) ℓ)

/-- The one word a point's table load reads: the table's word at the point. -/
theorem off1_emb (i : grid0.Coords) : (Rect.unit (s := S151) (k0_off1 i) S1.size (k0_off1_inb i)).emb (Shape.Idx.first (numel1_S1.symm ▸ Nat.zero_lt_one)) = (ValueIdx.ix1 (⟨(i 0).val, (i 0).isLt⟩ : Fin 151) : S151.Idx) := by
  funext a
  match a with
  | ⟨0, _⟩ =>
    refine Fin.ext ?_
    have h : (k0_off1 i) 0 = (i 0).val := by
      have := (i 0).isLt
      show (BitVec.ofNat 32 (i 0).val).toNat = _
      rw [BitVec.toNat_ofNat]
      have : (i 0).val < 151 := (i 0).isLt
      omega
    show (k0_off1 i) 0 + 1 * 0 = (i 0).val
    omega

variable {m} {G : ℕ → ℕ} (hg : ∀ i : Fin 8, (gsz m 0) (ValueIdx.ix1 i) = BitVec.ofNat 32 (G i.val)) (hG : P G 8 = 73728)
include hg hG

/-- The tile of a grid point. -/
theorem tileW_eq (i : grid0.Coords) : tileW m i = BitVec.ofNat 32 (vt G (i 0).val) := by
  have h : tileW m i = (V m 0 main_v42 : V151) (ValueIdx.ix1 (⟨(i 0).val, (i 0).isLt⟩ : Fin 151)) :=
    congrArg (V m 0 main_v42 : V151) (off1_emb i)
  exact h.trans ((congrFun (V_v42 m 0) _).trans (vtV_ap hg hG ⟨(i 0).val, (i 0).isLt⟩))

/-- The expert of a grid point. -/
theorem expW_eq (i : grid0.Coords) : expW m i = BitVec.ofNat 32 (ve G (i 0).val) := by
  have h : expW m i = (V m 0 main_v25 : V151) (ValueIdx.ix1 (⟨(i 0).val, (i 0).isLt⟩ : Fin 151)) :=
    congrArg (V m 0 main_v25 : V151) (off1_emb i)
  exact h.trans ((congrFun (V_v25 m 0) _).trans (veV_ap hg hG ⟨(i 0).val, (i 0).isLt⟩))

/-- The first row a grid point owns of its tile. -/
theorem wdL_eq (i : grid0.Coords) : wdL (0 : Dev nD) i (tbl m 2) = BitVec.ofNat 32 (vlo G (i 0).val) := by
  have h : wdL (0 : Dev nD) i (tbl m 2) = (V m 0 main_v54 : V151) (ValueIdx.ix1 (⟨(i 0).val, (i 0).isLt⟩ : Fin 151)) :=
    congrArg (V m 0 main_v54 : V151) (off1_emb i)
  exact h.trans ((congrFun (V_v54 m 0) _).trans (vloV_ap hg hG ⟨(i 0).val, (i 0).isLt⟩))

/-- The tile of a grid point is in range. -/
theorem tileW_lt (i : grid0.Coords) : (tileW m i).toNat < 144 := by
  rw [tileW_eq hg hG, BitVec.toNat_ofNat]
  have := vt_lt hG (i 0).val
  omega

/-- The expert of a grid point is in range. -/
theorem expW_lt (i : grid0.Coords) : (expW m i).toNat < 8 := by
  rw [expW_eq hg hG, BitVec.toNat_ofNat]
  have := (ve_spec hG (i 0).val).1
  omega

/-- Every block the tables name lies inside its array, in whole words. -/
theorem ok_of : Ok m := by
  have ht := fun i => tileW_lt hg hG (m := m) i
  have he := fun i => expW_lt hg hG (m := m) i
  have e0 : ∀ i, cc0_transform_0 k0_off1_inb numel1_S1 (tbl m) i = ![(tileW m i).toNat, 0] := fun _ => rfl
  have e1 : ∀ i, cc0_transform_1 k0_off1_inb numel1_S1 (tbl m) i = ![(expW m i).toNat, 0, 0] := fun _ => rfl
  have e2 : ∀ i, cc0_transform_2 k0_off1_inb numel1_S1 (tbl m) i = ![(expW m i).toNat, 0, 0] := fun _ => rfl
  have e3 : ∀ i, cc0_transform_3 k0_off1_inb numel1_S1 (tbl m) i = ![(tileW m i).toNat, 0] := fun _ => rfl
  exact ⟨fun i => blk_tok _ _ (e0 i) (ht i), fun i => blk_w _ _ (e1 i) (he i), fun i => blk_s _ _ (e2 i) (he i), fun i => blk_out _ _ (e3 i) (ht i)⟩

end Cert.Kernel.Kit
-- ==== Proof.GroupsBf16.lean ====
/- What the second stated precondition says: the group sizes are eight naturals that add up to the number of tokens, and
   every token coordinate is a bf16 magnitude. -/
module

public import proofs.«01_k».proof.Proof.Groups
public import proofs.«01_k».proof.Pre_groups_cover_bf16_tokens

@[expose] public section

set_option maxRecDepth 16384

noncomputable section

namespace Cert.Tables

open Idealize.ShloMosaic Idealize.ShloMosaic.ValueIdx Idealize.ShloMosaic.WordCmp Idealize.ShloMosaic.Routing
open Cert.Sched

/-- The second precondition says the same of the group sizes, and that every token coordinate is a bf16 magnitude. -/
theorem groups_of_cover_bf16 {F : FTy → Type} [FloatOps F] [Cert.Pre_groups_cover_bf16_tokens.Facts] (x0 : FVec F Cert.Pre_groups_cover_bf16_tokens.S73728x3072 .bf16) (g : IVec Cert.Pre_groups_cover_bf16_tokens.S8 32)
    (x2 : IVec Cert.Pre_groups_cover_bf16_tokens.S8x1024x1536 8) (x3 : FVec F Cert.Pre_groups_cover_bf16_tokens.S8x1024x96 .f32)
    (h : Cert.Pre_groups_cover_bf16_tokens.fn (F := F) x0 g x2 x3 = fun _ => 1#1) :
    (∃ G : ℕ → ℕ, (∀ i : Fin 8, (g : V8) (ix1 i) = BitVec.ofNat 32 (G i.val)) ∧ P G 8 = 73728)
    ∧ ∀ i, ori (cmpf .ole (Host.absf (extf .f32 x0 (by decide : FTy.bits .bf16 < FTy.bits .f32))) (constant Cert.Pre_groups_cover_bf16_tokens.S73728x3072 .f32 0x7F7F0000#32))
        (cmpf .oeq (Host.absf (extf .f32 x0 (by decide : FTy.bits .bf16 < FTy.bits .f32))) (constant Cert.Pre_groups_cover_bf16_tokens.S73728x3072 .f32 0x7F800000#32)) i = 1#1 := by
  have h1 := congrFun h ix0
  obtain ⟨h57, h13⟩ := IntOp.andi_eq_one.1 h1
  obtain ⟨h5, h7⟩ := IntOp.andi_eq_one.1 h57
  refine ⟨groups_of g h5 h7, fun i => ?_⟩
  haveI : Subsingleton Cert.Pre_groups_cover_bf16_tokens.S_.Idx := ⟨fun a b => funext fun k => k.elim0⟩
  exact Host.reduce_andi_all _ _ _ _ ix0 h13 i

end Cert.Tables
-- ==== Proof.Frames.lean ====
/- The frames: each program runs to its end without a fault, its arguments unchanged and its semaphores back at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_groups_cover
public import proofs.«01_k».proof.Proof.Groups
public import proofs.«01_k».proof.Proof.KITab
public import proofs.«01_k».proof.Proof.KTab

public import proofs.«01_k».proof.Proof.GroupsBf16
public import proofs.«01_k».proof.Proof.Gen.Pre_groups_cover_bf16_tokens

@[expose] public section

noncomputable section

namespace Cert.Proof

open Idealize.ShloMosaic Idealize.SL.Sem

/-- The kernel on floats as bits runs, given group sizes that cover the tokens. -/
theorem frame_kernel : quiescent_Kernel (hKernel := Cert.Kernel.Gen.facts) (hPre_groups_cover := Cert.Pre_groups_cover.Gen.facts) := by
  intro m g h
  obtain ⟨G, hg, hG⟩ := Cert.Tables.groups_of_cover _ _ _ _ (h 0)
  exact Cert.Kernel.Kit.frame m g (Cert.Kernel.Kit.ok_of hg hG)

/-- The kernel on exact floats runs, given group sizes that cover the tokens. -/
theorem frame_kernelIdeal : quiescent_KernelIdeal (hKernelIdeal := Cert.KernelIdeal.Gen.facts) (hPre_groups_cover := Cert.Pre_groups_cover.Gen.facts) := by
  intro m g h
  obtain ⟨G, hg, hG⟩ := Cert.Tables.groups_of_cover _ _ _ _ (h 0)
  exact Cert.KernelIdeal.Kit.frame m g (Cert.KernelIdeal.Kit.ok_of hg hG)

/-- The reference on exact floats runs. -/
theorem frame_referenceIdeal : quiescent_ReferenceIdeal (hReferenceIdeal := Cert.ReferenceIdeal.Gen.facts) :=
  fun m ρ _ => Cert.ReferenceIdeal.Gen.frame m ρ

/-- The kernel on exact floats runs, under the precondition of the value claim. -/
theorem frame_kernelIdeal_bf16 : quiescent_KernelIdeal_pre_groups_cover_bf16_tokens (hKernelIdeal := Cert.KernelIdeal.Gen.facts) (hPre_groups_cover_bf16_tokens := Cert.Pre_groups_cover_bf16_tokens.Gen.facts) := by
  intro m g h
  obtain ⟨⟨G, hg, hG⟩, _⟩ := Cert.Tables.groups_of_cover_bf16 _ _ _ _ (h 0)
  exact Cert.KernelIdeal.Kit.frame m g (Cert.KernelIdeal.Kit.ok_of hg hG)

/-- The reference on exact floats runs, under the precondition of the value claim. -/
theorem frame_referenceIdeal_bf16 : quiescent_ReferenceIdeal_pre_groups_cover_bf16_tokens (hReferenceIdeal := Cert.ReferenceIdeal.Gen.facts) (hPre_groups_cover_bf16_tokens := Cert.Pre_groups_cover_bf16_tokens.Gen.facts) :=
  fun m ρ _ => Cert.ReferenceIdeal.Gen.frame m ρ

end Cert.Proof

end
-- ==== Proof.Quant.lean ====
/- One output row of the kernel and of the reference over the extended reals. Both scale the row of tokens by a power of
   two, clip, multiply by the weights and scale back. Where the row is finite the power of two exceeds the largest
   magnitude over 57344, so nothing is clipped and the scales cancel: both rows are the plain product. Where the row holds
   an infinity both scales are one. -/
module

public import Idealize.ShloMosaic.PureOps.Ideal
public import Idealize.ShloMosaic.PureOps.Reduce
public import Mathlib.Data.EReal.Operations
public import Mathlib.Order.Interval.Finset.Fin
public import Mathlib.Data.Nat.Find

@[expose] public section

set_option maxRecDepth 16384

noncomputable section

namespace Cert.Quant

open Idealize.ShloMosaic

/-- The clip to the range of the 8-bit format. -/
def clipv (x : EReal) : EReal := min (Ideal.ofBits .f32 1197473792#32) (max (Ideal.ofBits .f32 3344957440#32) x)

/-- The largest magnitude of a row. -/
def amax {n : ℕ} (v : Fin n → EReal) : EReal :=
  Finset.univ.fold max (Ideal.ofBits .f32 4286578688#32) (fun k => max (v k) (-(v k)))

/-- The constant `1 / 57344` as a float. -/
def cinv : EReal := Ideal.ofBits .f32 932333861#32

theorem hi_eq : (Ideal.ofBits .f32 1197473792#32 : EReal) = ((57344 : ℝ) : EReal) := by
  simp [Ideal.ofBits, Ideal.ieee, -EReal.coe_mul]; norm_num
theorem lo_eq : (Ideal.ofBits .f32 3344957440#32 : EReal) = ((-57344 : ℝ) : EReal) := by
  simp [Ideal.ofBits, Ideal.ieee, -EReal.coe_mul, -EReal.coe_neg]; norm_num
theorem bot_eq : (Ideal.ofBits .f32 4286578688#32 : EReal) = ⊥ := by
  simp [Ideal.ofBits, Ideal.ieee]
theorem top_eq : (Ideal.ofBits .f32 2139095040#32 : EReal) = ⊤ := by
  simp [Ideal.ofBits, Ideal.ieee]
theorem cinv_eq : cinv = ((9586981 * (2 : ℝ) ^ (-39 : ℤ) : ℝ) : EReal) := by
  unfold cinv; simp [Ideal.ofBits, Ideal.ieee, -EReal.coe_mul]
theorem bmax_eq : (Ideal.ofBits .f32 2139029504#32 : EReal) = ((255 * (2 : ℝ) ^ (120 : ℤ) : ℝ) : EReal) := by
  simp [Ideal.ofBits, Ideal.ieee, -EReal.coe_mul]; norm_num

/-- A finite nonnegative factor goes into a sum. -/
theorem sum_mul {ι : Type*} (s : Finset ι) (f : ι → EReal) {x : ℝ} (hx : 0 ≤ x) :
    (∑ k ∈ s, f k) * (x : EReal) = ∑ k ∈ s, f k * (x : EReal) := by
  classical
  induction s using Finset.induction_on with
  | empty => simp
  | insert a s ha ih =>
    rw [Finset.sum_insert ha, Finset.sum_insert ha,
      EReal.right_distrib_of_nonneg_of_ne_top (by exact_mod_cast hx) (EReal.coe_ne_top x), ih]

/-- A row within the range of its scale: nothing is clipped and the scales cancel. -/
theorem scaled_sum {n : ℕ} (v w : Fin n → EReal) {x : ℝ} (hx : 0 < x)
    (hv : ∀ k, ∃ r : ℝ, v k = (r : EReal) ∧ |r| ≤ 57344 * x) :
    (∑ k, clipv (v k * ((x⁻¹ : ℝ) : EReal)) * w k) * (x : EReal) = ∑ k, v k * w k := by
  rw [sum_mul _ _ hx.le]
  refine Finset.sum_congr rfl fun k _ => ?_
  obtain ⟨r, hr, hb⟩ := hv k
  have h1 : |r * x⁻¹| ≤ 57344 := by
    rw [abs_mul, abs_of_pos (inv_pos.2 hx), ← div_eq_mul_inv, div_le_iff₀ hx]; exact hb
  have h2 : clipv (v k * ((x⁻¹ : ℝ) : EReal)) = ((r * x⁻¹ : ℝ) : EReal) := by
    rw [clipv, hi_eq, lo_eq, hr, ← EReal.coe_mul, max_eq_right (EReal.coe_le_coe_iff.2 (abs_le.1 h1).1),
      min_eq_right (EReal.coe_le_coe_iff.2 (abs_le.1 h1).2)]
  rw [h2, hr, mul_right_comm, ← EReal.coe_mul, mul_assoc, inv_mul_cancel₀ hx.ne', mul_one]

/-- Every entry of the row is in the range of a bf16. -/
def InRange {n : ℕ} (v : Fin n → EReal) : Prop :=
  ∀ k, max (v k) (-(v k)) ≤ Ideal.ofBits .f32 2139029504#32 ∨ max (v k) (-(v k)) = ⊤

theorem le_amax {n : ℕ} (v : Fin n → EReal) (k : Fin n) : max (v k) (-(v k)) ≤ amax v :=
  Finset.le_fold_max _ |>.2 (Or.inr ⟨k, Finset.mem_univ k, le_rfl⟩)

/-- The largest magnitude of a row in range: infinite, or a nonnegative real that bounds a row of reals. -/
theorem amax_cases {n : ℕ} [NeZero n] (v : Fin n → EReal) (h : InRange v) :
    amax v = ⊤ ∨ ∃ a : ℝ, amax v = (a : EReal) ∧ 0 ≤ a ∧ a ≤ 255 * (2 : ℝ) ^ (120 : ℤ)
      ∧ ∀ k, ∃ r : ℝ, v k = (r : EReal) ∧ |r| ≤ a := by
  by_cases ht : ∃ k, max (v k) (-(v k)) = ⊤
  · obtain ⟨k, hk⟩ := ht
    exact Or.inl (top_le_iff.1 (hk ▸ le_amax v k))
  · have hb : amax v ≤ ((255 * (2 : ℝ) ^ (120 : ℤ) : ℝ) : EReal) := by
      refine (Finset.fold_max_le _).2 ⟨by rw [bot_eq]; exact bot_le, fun k _ => ?_⟩
      rw [← bmax_eq]
      exact (h k).resolve_right fun hk => ht ⟨k, hk⟩
    have h0 : (0 : EReal) ≤ amax v := by
      refine le_trans ?_ (le_amax v 0)
      rcases le_total 0 (v 0) with h1 | h1
      · exact le_max_of_le_left h1
      · exact le_max_of_le_right (by simpa using EReal.neg_le_neg_iff.2 h1)
    right
    have hnt : amax v ≠ ⊤ := fun h => by rw [h] at hb; exact absurd hb (not_le.2 (EReal.coe_lt_top _))
    have hnb : amax v ≠ ⊥ := fun h => by rw [h] at h0; exact absurd h0 (not_le.2 (by simp))
    refine ⟨(amax v).toReal, (EReal.coe_toReal hnt hnb).symm, ?_, ?_, fun k => ?_⟩
    · rw [← EReal.coe_le_coe_iff, EReal.coe_toReal hnt hnb]; exact_mod_cast h0
    · rw [← EReal.coe_le_coe_iff, EReal.coe_toReal hnt hnb]; exact hb
    · have hk := le_amax v k
      have h1 : v k ≤ amax v := (le_max_left _ _).trans hk
      have h2 : -(v k) ≤ amax v := (le_max_right _ _).trans hk
      have k1 : v k ≠ ⊤ := fun h => hnt (top_le_iff.1 (h ▸ h1))
      have k2 : v k ≠ ⊥ := fun h => hnt (top_le_iff.1 (by rw [h] at h2; simpa using h2))
      refine ⟨(v k).toReal, (EReal.coe_toReal k1 k2).symm, ?_⟩
      lift v k to ℝ using ⟨k1, k2⟩ with r
      lift amax v to ℝ using ⟨hnt, hnb⟩ with a
      rw [EReal.toReal_coe, EReal.toReal_coe, abs_le]
      have h1' : r ≤ a := EReal.coe_le_coe_iff.1 h1
      have h2' : -r ≤ a := by rw [← EReal.coe_neg] at h2; exact EReal.coe_le_coe_iff.1 h2
      exact ⟨by linarith, h1'⟩

/-- What a float with exponent field `j` and no fraction is worth. -/
def fv (j : ℕ) : EReal := Ideal.ofBits .f32 (IntOp.shli .vector (BitVec.ofNat 32 j) 23#32)

theorem field_parts : ∀ j : Fin 256, (IntOp.shli .vector (BitVec.ofNat 32 j.val) 23#32).extractLsb' 31 1 = 0#1
    ∧ ((IntOp.shli .vector (BitVec.ofNat 32 j.val) 23#32).extractLsb' 23 8).toNat = j.val
    ∧ ((IntOp.shli .vector (BitVec.ofNat 32 j.val) 23#32).extractLsb' 0 23).toNat = 0 := by
  decide +kernel

/-- A field strictly between zero and all ones is a power of two. -/
theorem fv_mid {j : ℕ} (h0 : 0 < j) (h1 : j < 255) : fv j = (((2 : ℝ) ^ ((j : ℤ) - 127) : ℝ) : EReal) := by
  obtain ⟨p1, p2, p3⟩ := field_parts ⟨j, by omega⟩
  have e1 : ((j : ℤ) - 127) = 23 + ((j : ℤ) - 127 - 23) := by ring
  show Ideal.ieee 8 23 _ = _
  unfold Ideal.ieee
  dsimp only at p1 p2 p3 ⊢
  rw [p1, p2, p3, if_neg (by omega), if_neg (by omega), e1, zpow_add₀ (two_ne_zero)]
  norm_num

/-- The field of all ones is infinity. -/
theorem fv_top : fv 255 = ⊤ := by
  have h : IntOp.shli .vector (BitVec.ofNat 32 255) 23#32 = 2139095040#32 := by decide
  unfold fv; rw [h]; exact top_eq

theorem fv_mono {i j : ℕ} (h0 : 0 < i) (hij : i ≤ j) (h1 : j ≤ 255) : fv i ≤ fv j := by
  rcases Nat.lt_or_ge j 255 with h | h
  · rw [fv_mid h0 (by omega), fv_mid (by omega) h]
    exact EReal.coe_le_coe_iff.2 (zpow_le_zpow_right₀ (by norm_num) (by omega))
  · rw [show j = 255 by omega, fv_top]; exact le_top

/-- Whether the exponent field `j` counts for `q`. -/
def bit (q : EReal) (j : ℕ) : BitVec 32 :=
  BitVec.setWidth 32 (IntOp.andi (IntOp.cmpi .sgt (BitVec.ofNat 32 j) 0#32) (BitVec.ofBool (decide (fv j ≤ q))))

/-- The exponent field of `q`: how many positive fields are worth at most `q`. -/
def fieldW (q : EReal) : BitVec 32 := Finset.univ.fold IntOp.addi 0#32 (fun x : Fin 256 => bit q x.val)

/-- A sum of words is the word of the sum. -/
theorem fold_addi {ι : Type*} (s : Finset ι) (f : ι → ℕ) :
    s.fold IntOp.addi 0#32 (fun x => BitVec.ofNat 32 (f x)) = BitVec.ofNat 32 (∑ x ∈ s, f x) := by
  classical
  induction s using Finset.induction_on with
  | empty => rfl
  | insert a s ha ih =>
    rw [Finset.fold_insert ha, Finset.sum_insert ha, ih, BitVec.ofNat_add]; rfl

theorem gt_zero : ∀ j : Fin 256, IntOp.cmpi .sgt (BitVec.ofNat 32 j.val) 0#32 = BitVec.ofBool (decide (0 < j.val)) := by
  decide +kernel

/-- The exponent field counts up to the largest field worth at most `q`. -/
theorem fieldW_spec (q : EReal) : ∃ c : ℕ, c ≤ 255 ∧ fieldW q = BitVec.ofNat 32 c ∧ (0 < c → fv c ≤ q)
    ∧ (c < 255 → q < fv (c + 1)) := by
  classical
  let p : ℕ → Prop := fun j => j = 0 ∨ fv j ≤ q
  have hp : p (Nat.findGreatest p 255) := Nat.findGreatest_spec (Nat.zero_le 255) (Or.inl rfl)
  have hle : Nat.findGreatest p 255 ≤ 255 := Nat.findGreatest_le _
  have hgt : ∀ k, Nat.findGreatest p 255 < k → k ≤ 255 → ¬ p k := fun k a b => Nat.findGreatest_is_greatest a b
  generalize Nat.findGreatest p 255 = c at hp hle hgt
  have hiff : ∀ j : Fin 256, (0 < j.val ∧ fv j.val ≤ q) ↔ (0 < j.val ∧ j.val ≤ c) := by
    intro j
    refine and_congr_right fun h0 => ⟨fun h => ?_, fun h => ?_⟩
    · by_contra hn
      exact hgt j.val (by omega) (by have := j.isLt; omega) (Or.inr h)
    · exact (fv_mono h0 h hle).trans (hp.resolve_left (by omega))
  refine ⟨c, hle, ?_, fun h => hp.resolve_left (by omega), fun h => ?_⟩
  · have hb : (fun x : Fin 256 => bit q x.val) = fun x : Fin 256 => BitVec.ofNat 32 (if x ∈ Finset.Ioc (0 : Fin 256) ⟨c, by omega⟩ then 1 else 0) := by
      funext x
      have hx : x ∈ Finset.Ioc (0 : Fin 256) ⟨c, by omega⟩ ↔ (0 < x.val ∧ fv x.val ≤ q) := by
        rw [hiff x, Finset.mem_Ioc]; exact Iff.rfl
      unfold bit
      rw [gt_zero x]
      by_cases h1 : 0 < x.val <;> by_cases h2 : fv x.val ≤ q <;> simp [hx, h1, h2, IntOp.andi]
    rw [fieldW, hb, fold_addi, Finset.sum_ite_mem, Finset.univ_inter, Finset.sum_const, Fin.card_Ioc]
    simp
  · exact not_le.1 fun hn => hgt (c + 1) (by omega) (by omega) (Or.inr hn)

/-- The exponent as a word: the field less 126, or zero at either end of its range. -/
def expW (q : EReal) : BitVec 32 :=
  Scalar.select (IntOp.ori (IntOp.cmpi .eq (fieldW q) 0#32) (IntOp.cmpi .eq (fieldW q) 255#32)) 0#32 (IntOp.subi (fieldW q) 126#32)

/-- The kernel's scale. -/
def kscale (q : EReal) : EReal := Ideal.ofBits .f32 (IntOp.shli .vector (IntOp.addi (expW q) 127#32) 23#32)
/-- The kernel's inverse scale. -/
def kinv (q : EReal) : EReal := Ideal.ofBits .f32 (IntOp.shli .vector (IntOp.subi 127#32 (expW q)) 23#32)

/-- The exponent word of a field, and the fields of the two scales. -/
theorem exp_words : ∀ c : Fin 256, c.val < 252 ∨ c.val = 255 →
    IntOp.addi (Scalar.select (IntOp.ori (IntOp.cmpi .eq (BitVec.ofNat 32 c.val) 0#32) (IntOp.cmpi .eq (BitVec.ofNat 32 c.val) 255#32)) 0#32 (IntOp.subi (BitVec.ofNat 32 c.val) 126#32)) 127#32
      = BitVec.ofNat 32 (if c.val = 0 ∨ c.val = 255 then 127 else c.val + 1)
    ∧ IntOp.subi 127#32 (Scalar.select (IntOp.ori (IntOp.cmpi .eq (BitVec.ofNat 32 c.val) 0#32) (IntOp.cmpi .eq (BitVec.ofNat 32 c.val) 255#32)) 0#32 (IntOp.subi (BitVec.ofNat 32 c.val) 126#32))
      = BitVec.ofNat 32 (if c.val = 0 ∨ c.val = 255 then 127 else 253 - c.val) := by
  decide +kernel

theorem fv_127 : fv 127 = ((1 : ℝ) : EReal) := by rw [fv_mid (by omega) (by omega)]; norm_num

/-- The kernel's scales of an infinite row are one. -/
theorem k_top : kscale ⊤ = ((1 : ℝ) : EReal) ∧ kinv ⊤ = ((1 : ℝ) : EReal) := by
  obtain ⟨c, hc, hf, h1, h2⟩ := fieldW_spec ⊤
  have h255 : c = 255 := by
    by_contra hn
    exact absurd (h2 (by omega)) (not_lt.2 le_top)
  subst h255
  obtain ⟨w1, w2⟩ := exp_words ⟨255, by omega⟩ (Or.inr rfl)
  dsimp only at w1 w2
  unfold kscale kinv expW
  rw [hf, w1, w2]
  exact ⟨fv_127, fv_127⟩

/-- The kernel's scales of a finite row: a power of two above the quotient, and its inverse. -/
theorem k_fin (q : ℝ) (hq : q < (2 : ℝ) ^ (113 : ℤ)) :
    ∃ x : ℝ, 0 < x ∧ q < x ∧ kscale (q : EReal) = (x : EReal) ∧ kinv (q : EReal) = ((x⁻¹ : ℝ) : EReal) := by
  obtain ⟨c, hc, hf, h1, h2⟩ := fieldW_spec (q : EReal)
  have hc2 : c < 240 := by
    by_contra hn
    have h3 : fv 240 ≤ (q : EReal) := (fv_mono (by omega) (by omega) hc).trans (h1 (by omega))
    rw [fv_mid (by omega) (by omega)] at h3
    have h4 := EReal.coe_le_coe_iff.1 h3
    norm_num at h4 hq
    linarith
  have h3 : q < (2 : ℝ) ^ (((c + 1 : ℕ) : ℤ) - 127) := by
    have := h2 (by omega)
    rw [fv_mid (by omega) (by omega)] at this
    exact EReal.coe_lt_coe_iff.1 this
  obtain ⟨w1, w2⟩ := exp_words ⟨c, by omega⟩ (Or.inl (by dsimp only; omega))
  dsimp only at w1 w2
  unfold kscale kinv expW
  rw [hf, w1, w2]
  by_cases h0 : c = 0
  · refine ⟨1, one_pos, ?_, ?_, ?_⟩
    · subst h0; refine h3.trans ?_; norm_num
    · rw [if_pos (Or.inl h0)]; exact fv_127
    · rw [if_pos (Or.inl h0), inv_one]; exact fv_127
  · have hn : ¬ (c = 0 ∨ c = 255) := by omega
    refine ⟨(2 : ℝ) ^ (((c + 1 : ℕ) : ℤ) - 127), by positivity, h3, ?_, ?_⟩
    · rw [if_neg hn]; exact fv_mid (by omega) (by omega)
    · rw [if_neg hn, ← zpow_neg]
      refine (fv_mid (j := 253 - c) (by omega) (by omega)).trans ?_
      congr 2; push_cast [Nat.cast_sub (show c ≤ 253 by omega)]; ring

/-- A magnitude is at most 57344 times anything above its quotient. -/
theorem le_of_quot {a x : ℝ} (ha : 0 ≤ a) (h : a * (9586981 * (2 : ℝ) ^ (-39 : ℤ)) < x) : a ≤ 57344 * x := by
  have : a ≤ 57344 * (a * (9586981 * (2 : ℝ) ^ (-39 : ℤ))) := by
    have e : (1 : ℝ) ≤ 57344 * (9586981 * (2 : ℝ) ^ (-39 : ℤ)) := by norm_num
    nlinarith
  linarith

/-- A row of the kernel. -/
def krow {n : ℕ} (v w : Fin n → EReal) : EReal :=
  (∑ k, clipv (v k * kinv (amax v * cinv)) * w k) * kscale (amax v * cinv)

theorem quot_lt {a : ℝ} (ha : a ≤ 255 * (2 : ℝ) ^ (120 : ℤ)) : a * (9586981 * (2 : ℝ) ^ (-39 : ℤ)) < (2 : ℝ) ^ (113 : ℤ) := by
  have e : (255 * (2 : ℝ) ^ (120 : ℤ)) * (9586981 * (2 : ℝ) ^ (-39 : ℤ)) < (2 : ℝ) ^ (113 : ℤ) := by norm_num
  have : (0 : ℝ) < 9586981 * (2 : ℝ) ^ (-39 : ℤ) := by positivity
  nlinarith

/-- The value both programs share: the plain product of a finite row, the clipped product of an infinite one. -/
def row {n : ℕ} (v w : Fin n → EReal) : EReal :=
  if amax v = ⊤ then ∑ k, clipv (v k) * w k else ∑ k, v k * w k

theorem top_cinv : (⊤ : EReal) * cinv = ⊤ := by
  rw [cinv_eq]; exact EReal.top_mul_coe_of_pos (by positivity)

/-- A row of the kernel is the shared value. -/
theorem krow_eq {n : ℕ} [NeZero n] (v w : Fin n → EReal) (h : InRange v) : krow v w = row v w := by
  unfold krow row
  rcases amax_cases v h with ht | ⟨a, ha, h0, hb, hv⟩
  · rw [if_pos ht, ht, top_cinv, k_top.1, k_top.2, EReal.coe_one, mul_one]
    exact Finset.sum_congr rfl fun k _ => by rw [mul_one]
  · have hq : amax v * cinv = ((a * (9586981 * (2 : ℝ) ^ (-39 : ℤ)) : ℝ) : EReal) := by
      rw [ha, cinv_eq, ← EReal.coe_mul]
    obtain ⟨x, hx, hlt, e1, e2⟩ := k_fin _ (quot_lt hb)
    rw [if_neg (by rw [ha]; exact EReal.coe_ne_top a), hq, e1, e2]
    exact scaled_sum v w hx fun k => by
      obtain ⟨r, hr, hra⟩ := hv k
      exact ⟨r, hr, hra.trans (le_of_quot h0 hlt)⟩

theorem zero_eq : (Ideal.ofBits .f32 0#32 : EReal) = ((0 : ℝ) : EReal) := by
  simp [Ideal.ofBits, Ideal.ieee]
theorem one_eq : (Ideal.ofBits .f32 1065353216#32 : EReal) = ((1 : ℝ) : EReal) := by
  simp [Ideal.ofBits, Ideal.ieee, -EReal.coe_mul, -EReal.coe_one]; norm_num
theorem two_eq : (Ideal.ofBits .f32 1073741824#32 : EReal) = ((2 : ℝ) : EReal) := by
  simp [Ideal.ofBits, Ideal.ieee, -EReal.coe_mul]; norm_num

/-- The reference's exponent, of the largest magnitude of the row. -/
def refE (a : EReal) : EReal :=
  Scalar.select (IntOp.ori (BitVec.ofBool (decide (a = Ideal.ofBits .f32 0#32))) (BitVec.ofBool (decide (a = Ideal.ofBits .f32 2139095040#32))))
    (Ideal.ofBits .f32 0#32)
    (Ideal.liftRound Int.floor (Ideal.div (Ideal.log (a * cinv)) (Ideal.log (Ideal.ofBits .f32 1073741824#32))) + Ideal.ofBits .f32 1065353216#32)

/-- Where the magnitude is zero or infinite the reference's exponent is zero. -/
theorem refE_end {a : EReal} (h : a = 0 ∨ a = ⊤) : refE a = ((0 : ℝ) : EReal) := by
  unfold refE
  rw [top_eq, zero_eq]
  rcases h with h | h <;> subst h <;> simp [Scalar.select, IntOp.ori]

/-- Elsewhere it is the exponent of a power of two above the quotient. -/
theorem refE_mid {a : ℝ} (h : 0 < a) :
    refE (a : EReal) = ((((⌊Real.log (a * (9586981 * (2 : ℝ) ^ (-39 : ℤ))) / Real.log 2⌋ : ℤ) : ℝ) + 1 : ℝ) : EReal) := by
  have hq : 0 < a * (9586981 * (2 : ℝ) ^ (-39 : ℤ)) := by positivity
  have hl : Real.log 2 ≠ 0 := (Real.log_pos one_lt_two).ne'
  have h1 : ¬ (a : EReal) = ((0 : ℝ) : EReal) := fun e => h.ne' (EReal.coe_eq_coe_iff.1 e)
  unfold refE
  rw [top_eq, zero_eq, one_eq, two_eq, cinv_eq, ← EReal.coe_mul, Ideal.log_coe, if_neg (not_le.2 hq), Ideal.log_coe,
    if_neg (by norm_num), Ideal.div_coe hl, ← EReal.coe_mul, Ideal.liftRound_coe, ← EReal.coe_add, mul_one_div]
  simp [Scalar.select, IntOp.ori, h.ne']

/-- The reference's scale. -/
def rscale (a : EReal) : EReal := Ideal.exp2 (refE a)
/-- The reference's inverse scale. -/
def rinv (a : EReal) : EReal := Ideal.exp2 (Ideal.ofBits .f32 0#32 - refE a)

/-- The two scales of an exponent are each other's inverse. -/
theorem exp2_pair {a : EReal} {e : ℝ} (h : refE a = (e : EReal)) :
    rscale a = (((2 : ℝ) ^ e : ℝ) : EReal) ∧ rinv a = ((((2 : ℝ) ^ e)⁻¹ : ℝ) : EReal) := by
  unfold rscale rinv
  rw [h, zero_eq, ← EReal.coe_sub, Ideal.exp2_coe, Ideal.exp2_coe, zero_sub]
  refine ⟨rfl, ?_⟩
  rw [show Real.rpow 2 (-e) = (2 : ℝ) ^ (-e) from rfl, Real.rpow_neg (by norm_num)]

/-- A row of the reference. -/
def rrow {n : ℕ} (v w : Fin n → EReal) : EReal := (∑ k, clipv (v k * rinv (amax v)) * w k) * rscale (amax v)

/-- A row of the reference is the shared value. -/
theorem rrow_eq {n : ℕ} [NeZero n] (v w : Fin n → EReal) (h : InRange v) : rrow v w = row v w := by
  unfold rrow row
  rcases amax_cases v h with ht | ⟨a, ha, h0, hb, hv⟩
  · obtain ⟨e1, e2⟩ := exp2_pair (refE_end (Or.inr ht))
    rw [Real.rpow_zero] at e1 e2
    rw [inv_one] at e2
    rw [if_pos ht, e1, e2, EReal.coe_one, mul_one]
    exact Finset.sum_congr rfl fun k _ => by rw [mul_one]
  · rw [if_neg (by rw [ha]; exact EReal.coe_ne_top a)]
    rcases h0.eq_or_lt with hz | hpos
    · obtain ⟨e1, e2⟩ := exp2_pair (a := amax v) (refE_end (Or.inl (by rw [ha, ← hz]; rfl)))
      rw [e1, e2]
      refine scaled_sum v w (by positivity) fun k => ?_
      obtain ⟨r, hr, hra⟩ := hv k
      exact ⟨r, hr, hra.trans (by rw [← hz]; positivity)⟩
    · obtain ⟨e1, e2⟩ := exp2_pair (a := amax v) (by rw [ha]; exact refE_mid hpos)
      rw [e1, e2]
      have hq : 0 < a * (9586981 * (2 : ℝ) ^ (-39 : ℤ)) := by positivity
      refine scaled_sum v w (by positivity) fun k => ?_
      obtain ⟨r, hr, hra⟩ := hv k
      refine ⟨r, hr, hra.trans (le_of_quot h0 ?_)⟩
      rw [Real.lt_rpow_iff_log_lt hq two_pos, ← div_lt_iff₀ (Real.log_pos one_lt_two)]
      exact Int.lt_floor_add_one _

/-- Over a row in range the two programs' rows are equal. -/
theorem krow_eq_rrow {n : ℕ} [NeZero n] (v w : Fin n → EReal) (h : InRange v) : krow v w = rrow v w :=
  (krow_eq v w h).trans (rrow_eq v w h).symm

end Cert.Quant
-- ==== Proof.Spec.lean ====
/- What both programs compute, as one function of the arguments: the decoded weights, the expert that owns a row, and the
   product of a quantized row with its expert's weights. -/
module

public import proofs.«01_k».proof.Proof.Quant
public import proofs.«01_k».proof.Proof.Sched
public import Idealize.ShloMosaic.Lib.Pointwise

@[expose] public section

noncomputable section

namespace Cert.Spec

open Idealize.ShloMosaic Cert.Sched Cert.Quant

/-- The packed weights. -/
abbrev Packed := (⟨3, ![8, 1024, 1536]⟩ : Shape).Idx → BitVec 8
/-- The scales of the weights. -/
abbrev Scales := (⟨3, ![8, 1024, 96]⟩ : Shape).Idx → EReal
/-- The tokens. -/
abbrev Tokens := (⟨2, ![73728, 3072]⟩ : Shape).Idx → EReal
/-- The result. -/
abbrev Result := (⟨2, ![73728, 1024]⟩ : Shape).Idx → EReal

/-- The signed four-bit code number `k` of a byte: the low half for even `k`, the high half for odd `k`. -/
def nib (w : BitVec 8) (k : ℕ) : BitVec 32 :=
  if k % 2 < 1 then IntOp.shrsi .vector (IntOp.shli .vector (BitVec.setWidth 32 w) 28#32) 28#32
  else IntOp.shrsi .vector (IntOp.shli .vector (BitVec.setWidth 32 w) 24#32) 28#32

/-- The decoded weight of expert `e` at contracted place `k` and output column `l`. -/
def wt (x2 : Packed) (x3 : Scales) (e : ℕ) (k : Fin 3072) (l : Fin 1024) : EReal :=
  FloatOps.sitofp (F := Ideal) .bf16 (nib (x2 (ix3 (Fin.ofNat 8 e) l (⟨k.val / 2, by omega⟩ : Fin 1536))) k.val)
    * x3 (ix3 (Fin.ofNat 8 e) l (⟨k.val / 32, by omega⟩ : Fin 96))

/-- The expert that owns row `i`: as many experts end at or before it. -/
def own (G : ℕ → ℕ) (i : ℕ) : ℕ := Nat.count (fun q => P G (q + 1) ≤ i) 8

theorem own_eq {G : ℕ → ℕ} {i e : ℕ} (he : e < 8) (h1 : P G e ≤ i) (h2 : i < P G (e + 1)) : own G i = e := by
  refine count_eq (by omega) (fun q hq => ?_) (fun q hq hq' => ?_)
  · have := P_mono G (show q + 1 ≤ e by omega); show P G (q + 1) ≤ i; omega
  · have := P_mono G (show e + 1 ≤ q + 1 by omega); show ¬ P G (q + 1) ≤ i; omega

/-- The result: each row quantized, multiplied with its owner's weights, and scaled back. -/
def target (x0 : Tokens) (x2 : Packed) (x3 : Scales) (G : ℕ → ℕ) : Result := fun i =>
  krow (fun k : Fin 3072 => x0 (ix2 (⟨(i 0).val, (i 0).isLt⟩ : Fin 73728) k)) (fun k => wt x2 x3 (own G (i 0).val) k (⟨(i 1).val, (i 1).isLt⟩ : Fin 1024))

end Cert.Spec
-- ==== Proof.KIValue.lean ====
/- The kernel's blocks entry by entry: a fresh block is the product of quantized rows and weights, a merged block keeps
   the rows below a bound, and the decoded weights are the codes times their scales. -/
module

public import proofs.«01_k».proof.Proof.KIRun
public import proofs.«01_k».proof.Proof.Spec
public import Idealize.ShloMosaic.PureOps.Ideal

@[expose] public section

set_option maxRecDepth 16384

noncomputable section

namespace Cert.KernelIdeal.Kit
open Cert.KernelIdeal.Gen Cert.Quant Cert.Spec
open Idealize.ShloMosaic

/-- The exponent field of a row's scale. -/
theorem pay6_at (x0 : Vec Ideal S512x3072 .bf16) (r : Fin 512) :
    k0_pay6 x0 (ix2 r 0) = fieldW (amax (fun k => x0 (ix2 r k)) * cinv) := by
  pointwise [k0_pay6, k0_pay5]
  rfl
/-- Whether the exponent is taken to be zero. -/
theorem pay7_at (x0 : Vec Ideal S512x3072 .bf16) (r : Fin 512) :
    k0_pay7 x0 (ix2 r 0) = IntOp.ori (IntOp.cmpi .eq (k0_pay6 x0 (ix2 r 0)) 0#32) (IntOp.cmpi .eq (k0_pay6 x0 (ix2 r 0)) 255#32) := by
  pointwise [k0_pay7]

/-- A fresh block. -/
theorem freshOut_at (x0 : Vec Ideal S512x3072 .bf16) (w : Vec Ideal S3072x1024 .fp8e5m2) (r : Fin 512) (l : Fin 1024) :
    freshOut x0 w (ix2 r l) = krow (fun k => x0 (ix2 r k)) (fun k => w (ix2 k l)) := by
  unfold freshOut
  pointwise [k0_pay1, k0_pay5]
  rw [pay7_at, pay6_at]
  rfl

/-- A merged block. -/
theorem mergeOut_at (lo : BitVec 32) (x0 : Vec Ideal S512x3072 .bf16) (w : Vec Ideal S3072x1024 .fp8e5m2) (y : Vec Ideal S512x1024 .bf16)
    (r : Fin 512) (l : Fin 1024) :
    mergeOut lo x0 w y (ix2 r l) = Scalar.select (IntOp.cmpi .slt (BitVec.ofNat 32 r.val) lo) (y (ix2 r l)) (freshOut x0 w (ix2 r l)) := by
  unfold mergeOut
  pointwise [k0_pay2, k0_pay4]

/-- The decoded weights. -/
theorem dec_at (a : Vec Ideal S1x1536x1024 .i8) (b : Vec Ideal S1x96x1024 .f32) (k : Fin 3072) (l : Fin 1024) :
    k0_pay3 a b (ix2 k l) = FloatOps.sitofp (F := Ideal) .bf16 (nib (a (ix3 0 (⟨k.val / 2, by omega⟩ : Fin 1536) l)) k.val)
      * b (ix3 0 (⟨k.val / 32, by omega⟩ : Fin 96) l) := by
  pointwise [k0_pay3]
  unfold nib
  split <;> rfl

end Cert.KernelIdeal.Kit
-- ==== Proof.KIArr.lean ====
/- The kernel's output array: every row written back is its owner's product. -/
module

public import proofs.«01_k».proof.Proof.KIValue
public import proofs.«01_k».proof.Proof.KIMain
public import proofs.«01_k».proof.Proof.KITab
public import Idealize.ShloMosaic.Lib.Pipeline.ValueKit.Geometry

@[expose] public section

set_option maxRecDepth 16384

noncomputable section

namespace Cert.KernelIdeal.Kit

open Cert.KernelIdeal.Gen Cert.Sched Cert.Spec Cert.Quant Cert.Tables
open Idealize.ShloMosaic Idealize.ShloMosaic.TcCoe Idealize.SL.Sem
open Idealize.ShloMosaic.Pipeline (Dat Cfg Window)

variable {m : (ℓ : Loc nD τ sig) → Buf (Elt Ideal) ℓ} {G : ℕ → ℕ} (hg : ∀ i : Fin 8, (gsz m 0) (ValueIdx.ix1 i) = BitVec.ofNat 32 (G i.val)) (hG : P G 8 = 73728)

/-- The kernel's result as a function of the arguments launched. -/
abbrev tgt (m : (ℓ : Loc nD τ sig) → Buf (Elt Ideal) ℓ) (G : ℕ → ℕ) : Result :=
  target (m (((0 : Dev nD) : Thread nD τ).loc main_arg0)) (m (((0 : Dev nD) : Thread nD τ).loc main_arg2)) (m (((0 : Dev nD) : Thread nD τ).loc main_arg3)) G

include hg hG

/-- The index of a tile as a natural. -/
theorem tile_nat (t : Fin 151) : (tileW m (grid0.coords t)).toNat = vt G t.val := by
  have := vt_lt hG t.val
  rw [tileW_eq hg hG, coords_val, BitVec.toNat_ofNat]; omega
/-- The index of an expert as a natural. -/
theorem exp_nat (t : Fin 151) : (expW m (grid0.coords t)).toNat = ve G t.val := by
  have := (ve_spec hG t.val).1
  rw [expW_eq hg hG, coords_val, BitVec.toNat_ofNat]; omega

variable (hO : Ok m)

/-- The tokens of a block. -/
theorem tok_at (t : Fin (cfgM m hO).N) (r : Fin 512) (k : Fin 3072) (hr : 512 * vt G t.val + r.val < 73728) :
    (iblk m hO 0 0 t : Vec Ideal S512x3072 .bf16) (ix2 r k) = m (((0 : Dev nD) : Thread nD τ).loc main_arg0) (ix2 (⟨512 * vt G t.val + r.val, hr⟩ : Fin 73728) k) := by
  refine (iblk_0_emb m hO 0 t (ix2 r k)).trans ?_
  refine (congrFun (V_main_arg0 m 0) _).trans (congrArg _ (funext fun a => Fin.ext ?_))
  refine (rect_emb_val m hO 0 t (ix2 r k) a).trans ?_
  rw [index_0 m hO t, tile_nat hg hG t]
  match a with
  | ⟨0, _⟩ => show vt G t.val * 512 + r.val = 512 * vt G t.val + r.val; omega
  | ⟨1, _⟩ => show 0 * 3072 + k.val = k.val; omega

/-- The packed weights of a block. -/
theorem wp_at (t : Fin (cfgM m hO).N) (k : Fin 1536) (l : Fin 1024) :
    (iblk m hO 0 1 t : Vec Ideal S1x1536x1024 .i8) (ix3 0 k l) = m (((0 : Dev nD) : Thread nD τ).loc main_arg2) (ix3 (Fin.ofNat 8 (ve G t.val)) l k) := by
  refine (iblk_1_emb m hO 0 t (ix3 0 k l)).trans ?_
  refine (congrFun (V_v55 m 0) _).trans ?_
  have e : (((((cfgM m hO).win 1).rect t).emb (ix3 0 k l)) : S8x1536x1024.Idx) = ix3 (Fin.ofNat 8 (ve G t.val)) k l := by
    refine funext fun a => Fin.ext ((rect_emb_val m hO 1 t (ix3 0 k l) a).trans ?_)
    rw [index_1 m hO t, exp_nat hg hG t]
    have := (ve_spec hG t.val).1
    match a with
    | ⟨0, _⟩ => show ve G t.val * 1 + 0 = ve G t.val % 8; omega
    | ⟨1, _⟩ => show 0 * 1536 + k.val = k.val; omega
    | ⟨2, _⟩ => show 0 * 1024 + l.val = l.val; omega
  refine (congrArg _ e).trans ?_
  pointwise

/-- The scales of a block. -/
theorem ws_at (t : Fin (cfgM m hO).N) (k : Fin 96) (l : Fin 1024) :
    (iblk m hO 0 2 t : Vec Ideal S1x96x1024 .f32) (ix3 0 k l) = m (((0 : Dev nD) : Thread nD τ).loc main_arg3) (ix3 (Fin.ofNat 8 (ve G t.val)) l k) := by
  refine (iblk_2_emb m hO 0 t (ix3 0 k l)).trans ?_
  refine (congrFun (V_v56 m 0) _).trans ?_
  have e : (((((cfgM m hO).win 2).rect t).emb (ix3 0 k l)) : S8x96x1024.Idx) = ix3 (Fin.ofNat 8 (ve G t.val)) k l := by
    refine funext fun a => Fin.ext ((rect_emb_val m hO 2 t (ix3 0 k l) a).trans ?_)
    rw [index_2 m hO t, exp_nat hg hG t]
    have := (ve_spec hG t.val).1
    match a with
    | ⟨0, _⟩ => show ve G t.val * 1 + 0 = ve G t.val % 8; omega
    | ⟨1, _⟩ => show 0 * 96 + k.val = k.val; omega
    | ⟨2, _⟩ => show 0 * 1024 + l.val = l.val; omega
  refine (congrArg _ e).trans ?_
  pointwise

/-- A fresh row of the block's expert is right. -/
theorem fresh_right (t : Fin (cfgM m hO).N) (r : Fin 512) (l : Fin 1024) (hr : 512 * vt G t.val + r.val < 73728)
    (h1 : P G (ve G t.val) ≤ 512 * vt G t.val + r.val) (h2 : 512 * vt G t.val + r.val < P G (ve G t.val + 1)) :
    freshOut (iblk m hO 0 0 t) (dec m hO 0 t) (ix2 r l) = tgt m G (ix2 (⟨512 * vt G t.val + r.val, hr⟩ : Fin 73728) l) := by
  refine (freshOut_at _ _ r l).trans ?_
  have ho := own_eq (ve_spec hG t.val).1 h1 h2
  show krow _ _ = krow (fun k : Fin 3072 => m (((0 : Dev nD) : Thread nD τ).loc main_arg0) (ix2 (⟨512 * vt G t.val + r.val, hr⟩ : Fin 73728) k))
    (fun k => wt _ _ (own G (512 * vt G t.val + r.val)) k l)
  rw [ho]
  refine congrArg₂ krow (funext fun k => tok_at hg hG hO t r k hr) (funext fun k => ?_)
  refine (dec_at _ _ k l).trans ?_
  rw [wp_at hg hG hO t, ws_at hg hG hO t]
  rfl

/-- Whether a block is merged: its first owned row is not its first. -/
theorem cond_iff (n : ℕ) (hn : n < 512) (i : grid0.Coords) : cond0_1 i (BitVec.ofNat 32 n) ↔ 0 < n := by
  have h : ∀ n : Fin 512, ((Scalar.cmpi .ne (Scalar.extui (Scalar.cmpi .sgt (BitVec.ofNat 32 n.val) 0#32)) 0#32) = 1#1) ↔ 0 < n.val := by decide +kernel
  exact h ⟨n, hn⟩

/-- The bound of a merge is in the block. -/
theorem vlo_lt (t : ℕ) : vlo G t < 512 := by
  obtain ⟨_, h, _, _⟩ := vt_spec hG t
  unfold vlo; omega

omit hg hG in
/-- Where the output block is, from the words of the tiles. -/
theorem idx3 (t : Fin (cfgM m hO).N) : ((cfgM m hO).win 3).index t = ![(tileW m (grid0.coords t)).toNat, 0] := index_3 m hO t

/-- Where the output block is. -/
theorem idx3' (t : Fin (cfgM m hO).N) : ((cfgM m hO).win 3).index t = ![vt G t.val, 0] :=
  (idx3 hO t).trans (congrArg (fun n => ![n, 0]) (tile_nat hg hG t))

/-- A block is written back at the last point or where the tile changes. -/
theorem flush_tile (t : Fin (cfgM m hO).N) (h : ((cfgM m hO).win 3).flush t = true) : t.val = 150 ∨ vt G (t.val + 1) ≠ vt G t.val := by
  unfold Window.flush at h
  have h' := (Bool.and_eq_true_iff.mp h).2
  rw [Bool.or_eq_true, decide_eq_true_eq, decide_eq_true_eq] at h'
  rcases h' with h' | ⟨h1, h2⟩
  · have : t.val + 1 = 151 := h'
    exact Or.inl (by omega)
  · refine Or.inr fun e => h2 ?_
    refine (idx3' hg hG hO ⟨t.val + 1, h1⟩).trans (Eq.trans ?_ (idx3' hg hG hO t).symm)
    exact congrArg (fun n => ![n, 0]) e

/-- The word of the first owned row. -/
theorem lo_eq' (t : Fin (cfgM m hO).N) : wdL (0 : Dev nD) (grid0.coords t) (tbl m 2) = BitVec.ofNat 32 (vlo G t.val) := by
  exact (wdL_eq hg hG (grid0.coords t)).trans (congrArg (fun n => BitVec.ofNat 32 (vlo G n)) (coords_val t))

/-- A row from the first owned row on is computed afresh. -/
theorem step_fresh (t : Fin (cfgM m hO).N) (Y : Vec Ideal S512x1024 .bf16) (r : Fin 512) (l : Fin 1024) (h : vlo G t.val ≤ r.val) :
    stepOut m hO 0 t Y (ix2 r l) = freshOut (iblk m hO 0 0 t) (dec m hO 0 t) (ix2 r l) := by
  have hv := vlo_lt hg hG t.val
  unfold stepOut
  split
  · refine (mergeOut_at _ _ _ _ r l).trans ?_
    rw [lo_eq' hg hG hO, WordCmp.cmpi_slt_ofNat (by omega) (by omega), decide_eq_false (by omega)]
    rfl
  · rfl
/-- A row before the first owned row is kept. -/
theorem step_keep (t : Fin (cfgM m hO).N) (Y : Vec Ideal S512x1024 .bf16) (r : Fin 512) (l : Fin 1024) (h : r.val < vlo G t.val) :
    stepOut m hO 0 t Y (ix2 r l) = Y (ix2 r l) := by
  have hv := vlo_lt hg hG t.val
  unfold stepOut
  rw [if_pos (by rw [lo_eq' hg hG hO]; exact (cond_iff hg hG _ hv _).2 (by omega))]
  refine (mergeOut_at _ _ _ _ r l).trans ?_
  rw [lo_eq' hg hG hO, WordCmp.cmpi_slt_ofNat (by omega) (by omega), decide_eq_true h]
  rfl

/-- Whatever the body may leave at a point, the rows below the end of the point's expert are right. -/
theorem leaves_right (n : ℕ) : ∀ (hn : n < (cfgM m hO).N) (X : Vec Ideal S512x1024 .bf16), (rdat m hO 0).Leaves 3 ⟨n, hn⟩ X →
    ∀ (r : Fin 512) (l : Fin 1024) (hr : 512 * vt G n + r.val < 73728), 512 * vt G n + r.val < P G (ve G n + 1) →
      X (ix2 r l) = tgt m G (ix2 (⟨512 * vt G n + r.val, hr⟩ : Fin 73728) l) := by
  induction n using Nat.strong_induction_on with
  | _ n ih =>
  rintro hn X ⟨Y, hY, hX⟩ r l hr h2
  have hN : n < 151 := hn
  have hX' : X = stepOut m hO 0 ⟨n, hn⟩ Y := hX
  rw [hX']
  by_cases hlo : r.val < vlo G n
  · obtain ⟨h0, hv, hp⟩ := prev_of_lo hG (t := n) (by omega)
    have hL : (rdat m hO 0).Leaves 3 ⟨n - 1, Nat.lt_of_le_of_lt (Nat.sub_le _ _) hn⟩ Y := by
      rcases ((rdat m hO 0).finds_of_pos (w := 3) (t := ⟨n, hn⟩) rfl (Nat.pos_iff_ne_zero.1 h0) Y).1 hY with hfl | h
      · exfalso
        rcases flush_tile hg hG hO _ hfl with h | h
        · have : n - 1 = 150 := h
          omega
        · have h' : vt G (n - 1 + 1) ≠ vt G (n - 1) := h
          rw [Nat.sub_add_cancel h0] at h'
          exact h' hv.symm
      · exact h
    refine (step_keep hg hG hO ⟨n, hn⟩ Y r l hlo).trans ?_
    have := ih (n - 1) (by omega) _ Y hL r l (by rw [hv]; exact hr) (by rw [hv]; unfold vlo at hlo; omega)
    refine this.trans (congrArg (fun q : Fin 73728 => tgt m G (ix2 q l)) (Fin.ext ?_))
    show 512 * vt G (n - 1) + r.val = 512 * vt G n + r.val
    rw [hv]
  · refine (step_fresh hg hG hO ⟨n, hn⟩ Y r l (by show vlo G n ≤ r.val; omega)).trans ?_
    exact fresh_right hg hG hO ⟨n, hn⟩ r l hr (by show P G (ve G n) ≤ 512 * vt G n + r.val; unfold vlo at hlo; omega) h2

/-- Every tile is visited. -/
theorem covers : ((cfgM m hO).win 3).Covers := by
  refine Window.covers_of_index_surj _ rfl ?_ ?_
  · intro a
    match a with
    | ⟨0, _⟩ => exact (by decide : 0 < 512)
    | ⟨1, _⟩ => exact (by decide : 0 < 1024)
  · intro β
    have hb0 : (β (0 : Fin 2)).val < (73728 + 512 - 1) / 512 := (β (0 : Fin 2)).isLt
    have hb1 : (β (1 : Fin 2)).val < (1024 + 1024 - 1) / 1024 := (β (1 : Fin 2)).isLt
    obtain ⟨t, ht, hv⟩ := exists_visit hG (T := (β (0 : Fin 2)).val) (by omega)
    refine ⟨(⟨t, ht⟩ : Fin 151), fun a => ?_⟩
    refine (congrFun (idx3' hg hG hO _) a).trans ?_
    match a with
    | ⟨0, _⟩ => exact hv
    | ⟨1, _⟩ => show 0 = (β (1 : Fin 2)).val; omega

/-- The output array, from what the body may have left at the points that write back. -/
theorem arr_eq (after : (w' : Fin (cfgM m hO).W) → Fin (cfgM m hO).N → ((cfgM m hO).win w').block.Idx → Elt Ideal ((cfgM m hO).win w').elt)
    (h : ∀ u, ((cfgM m hO).win 3).flush u = true → (rdat m hO 0).Leaves 3 u (after 3 u)) :
    ((rdat m hO 0).withAfter after).arrAt 3 (cfgM m hO).N = tgt m G := by
  refine Dat.arrAt_eq_of_covers ((rdat m hO 0).withAfter after) 3 (show Buf (Elt Ideal) (((cfgM m hO).win 3).arr.view.loc ((0 : Dev nD).tc : Thread nD τ)) from tgt m G) (covers hg hG hO) ?_
  intro t ht y
  have hlt := vt_lt hG t.val
  have hN : t.val < 151 := t.isLt
  have hend := end_of_flush hG hN (flush_tile hg hG hO t ht)
  have hy0 : (y (0 : Fin 2)).val < 512 := (((cfgM m hO).win 3).xinj ((cfgM m hO).grid.coords t) y (0 : Fin 2)).isLt
  have hy1 : (y (1 : Fin 2)).val < 1024 := (((cfgM m hO).win 3).xinj ((cfgM m hO).grid.coords t) y (1 : Fin 2)).isLt
  have key := leaves_right hg hG hO t.val t.isLt (after 3 t) (h t ht) ⟨(y (0 : Fin 2)).val, hy0⟩ ⟨(y (1 : Fin 2)).val, hy1⟩
    (by show 512 * vt G t.val + (y (0 : Fin 2)).val < 73728; omega) (by show 512 * vt G t.val + (y (0 : Fin 2)).val < _; omega)
  refine Eq.trans ?_ (key.trans ?_)
  · blk_simp
    refine congrArg (after 3 t) (funext fun a => ?_)
    match a with
    | ⟨0, _⟩ => rfl
    | ⟨1, _⟩ => rfl
  · refine congrArg (tgt m G) (funext fun a => Fin.ext ?_)
    refine Eq.trans ?_ (rect_emb_val m hO 3 t y a).symm
    refine Eq.trans ?_ (congrArg (fun n => n * ((cfgM m hO).win 3).size a + (y a).val) (congrFun (idx3' hg hG hO t) a).symm)
    match a with
    | ⟨0, _⟩ => show 512 * vt G t.val + (y (0 : Fin 2)).val = vt G t.val * 512 + (y (0 : Fin 2)).val; omega
    | ⟨1, _⟩ => show (y (1 : Fin 2)).val = 0 * 1024 + (y (1 : Fin 2)).val; omega

include hO

/-- The kernel's run: its result is the target of its arguments, which end unchanged. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v57) = tgt m G
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hv : θ_run (defs (F := Ideal)) (onTc (τ := τ) (main (F := Ideal))) ⟨m, fun _ => 0, ρ⟩ (fun r => ∀ c : Dev nD,
      r.2.mem ((c.tc : Thread nD τ).loc main_v57) = tgt m G) := by
    refine (θ_run defs _ _).mono (fun r h c => ?_) (run_main m ρ hO)
    obtain rfl : c = 0 := Subsingleton.elim _ _
    obtain ⟨after, h1, h2⟩ := Pipeline.RDat.FramePost.exists_exact h 0
    exact (h2 3).trans (arr_eq hg hG hO after (fun u hu => h1 3 u hu))
  exact (θ_run defs _ _).mono (fun r h c => ⟨h.1 c, h.2 c⟩) (θ_run_and hv (unchanged m ρ hO))

end Cert.KernelIdeal.Kit
-- ==== Proof.RIPay.lean ====
/- The reference's payloads read at an index. -/
module

public import proofs.«01_k».proof.Proof.Gen.ReferenceIdeal.Value
public import proofs.«01_k».proof.Proof.Quant
public import Idealize.ShloMosaic.Lib.Pointwise
public import Idealize.ShloMosaic.PureOps.Ideal

@[expose] public section

set_option maxRecDepth 16384

noncomputable section

namespace Cert.ReferenceIdeal.Kit

open Cert.ReferenceIdeal.Gen
open Idealize.ShloMosaic
open Cert.Quant

/-- The largest of a row, as a column. -/
theorem max_at (v : FVec Ideal S73728x3072 .f32) (r : Fin 73728) :
    shapeCast S73728x1 (multiReduction .maximumf [1] S73728 v 0xFF800000#32 reduces_S73728x3072_S73728 (.inl rfl) rfl) shapeCasts_S73728_S73728x1 (ix2 r 0)
      = Finset.fold max (Ideal.ofBits FTy.f32 4286578688#32) (fun x => v (ix2 r x)) Finset.univ := by
  pointwise []

/-- A column spread along the rows. -/
theorem bcast_at (v : FVec Ideal S73728x1 .f32) (r : Fin 73728) (k : Fin 3072) :
    broadcastTo S73728x3072 v broadcasts_S73728x1_S73728x3072 (ix2 r k) = v (ix2 r 0) := by
  pointwise []

/-- The exponent payload over any column of largest magnitudes. -/
theorem exp_of (v : FVec Ideal S73728x1 .f32) (i : S73728x1.Idx) :
    select (ori (cmpf .oeq v (broadcast S73728x1 (Scalar.ofBits .f32 0x00000000#32))) (cmpf .oeq v (broadcast S73728x1 (Scalar.ofBits .f32 0x7F800000#32))))
      (broadcast S73728x1 (Scalar.ofBits .f32 0x00000000#32 : Ideal .f32))
      (addf (floor (divf (log (mulf v (broadcast S73728x1 (Scalar.ofBits .f32 0x37924925#32)))) (log (broadcast S73728x1 (Scalar.ofBits .f32 0x40000000#32)))))
        (broadcast S73728x1 (Scalar.ofBits .f32 0x3F800000#32))) i = refE (v i) := by
  unfold refE cinv
  rfl

theorem absf_at {s : Shape} (v : FVec Ideal s .bf16) (h : FTy.bits .bf16 < FTy.bits .f32) (i : s.Idx) :
    absf (extf .f32 v h) i = max (v i) (-(v i)) := rfl

/-- The exponent of a row. -/
theorem pay3_at (x0 : Vec Ideal S73728x3072 .bf16) (r : Fin 73728) :
    k0_pay3 x0 (ix2 r 0) = refE (amax fun k => x0 (ix2 r k)) := by
  unfold k0_pay3 k0_pay2
  dsimp only
  rw [exp_of, max_at]
  unfold amax
  simp only [absf_at]

/-- The clip payload over any operands. -/
theorem clip_of {s : Shape} (v a : FVec Ideal s .f32) (h1 : FTy.bits .fp8e5m2 < FTy.bits .f32) (h2 : FTy.bits .fp8e5m2 < FTy.bits .bf16) (i : s.Idx) :
    extf .bf16 (truncf .fp8e5m2 (minimumf (broadcast s (Scalar.ofBits .f32 0x47600000#32)) (maximumf (broadcast s (Scalar.ofBits .f32 0xC7600000#32)) (mulf v a))) h1) h2 i
      = clipv (v i * a i) := by
  unfold clipv
  rfl

theorem inv_of {s : Shape} (v : FVec Ideal s .f32) (i : s.Idx) :
    exp2 (subf (broadcast s (Scalar.ofBits .f32 0x00000000#32)) v) i = Ideal.exp2 (Ideal.ofBits .f32 0#32 - v i) := rfl

theorem extf_at {s : Shape} (v : FVec Ideal s .bf16) (h : FTy.bits .bf16 < FTy.bits .f32) (i : s.Idx) : extf .f32 v h i = v i := rfl

/-- The clipped codes of a row. -/
theorem pay5_at (x0 : Vec Ideal S73728x3072 .bf16) (r : Fin 73728) (k : Fin 3072) :
    k0_pay5 x0 (ix2 r k) = clipv (x0 (ix2 r k) * rinv (amax fun k => x0 (ix2 r k))) := by
  unfold k0_pay5 k0_pay2
  dsimp only
  rw [clip_of, bcast_at, inv_of, pay3_at, extf_at]
  rfl

theorem exp2_of {s : Shape} (v : FVec Ideal s .f32) (i : s.Idx) : exp2 v i = Ideal.exp2 (v i) := rfl

/-- The scale of a row. -/
theorem pay4_at (x0 : Vec Ideal S73728x3072 .bf16) (r : Fin 73728) :
    k0_pay4 x0 (ix2 r 0) = rscale (amax fun k => x0 (ix2 r k)) := by
  unfold k0_pay4
  rw [exp2_of, pay3_at]
  rfl

/-- Whether the row `r` lies from `s` to before `e`. -/
def mine (r : Fin 73728) (s e : BitVec 32) : BitVec 1 :=
  IntOp.andi (IntOp.cmpi .sge (BitVec.ofNat 32 r.val) s) (IntOp.cmpi .slt (BitVec.ofNat 32 r.val) e)

/-- One product of codes and weights. -/
def dot (v : FVec Ideal S73728x3072 .bf16) (w : Vec Ideal S1x3072x1024 .bf16) (r : Fin 73728) (l : Fin 1024) : EReal :=
  ∑ x, v (ix2 r x) * w (ix3 0 x l)

theorem pay7_at (s e : Elt Ideal .i32) (r : Fin 73728) : k0_pay7 (F := Ideal) s e (ix2 r 0) = mine r s e := by
  pointwise [k0_pay7]
  rfl
theorem pay9_at (s e : Elt Ideal .i32) (r : Fin 73728) :
    k0_pay9 (F := Ideal) (iota .tc S73728x1 32 [0] iota_S73728x1_d0_w32) s e (ix2 r 0) = mine r s e := by
  pointwise [k0_pay9]
  rfl
theorem pay13_at (s e : Elt Ideal .i32) (r : Fin 73728) (l : Fin 1024) :
    k0_pay13 (F := Ideal) (iota .tc S73728x1 32 [0] iota_S73728x1_d0_w32) s e (ix2 r l) = mine r s e := by
  pointwise [k0_pay13]
  rfl
theorem pay12_at (v : FVec Ideal S73728x3072 .bf16) (w : Vec Ideal S1x3072x1024 .bf16) (r : Fin 73728) (l : Fin 1024) :
    k0_pay12 v w (ix2 r l) = dot v w r l := by
  pointwise [k0_pay12]
  rfl
theorem pay6_at (r : Fin 73728) (l : Fin 1024) : k0_pay6 (F := Ideal) (ix2 r l) = 0 := by
  pointwise [k0_pay6]

/-- The first three masked products. -/
theorem pay8_at (v : FVec Ideal S73728x3072 .bf16) (a : FVec Ideal S73728x1024 .f32) (m0 : IVec S73728x1 1) (w0 w1 w2 : Vec Ideal S1x3072x1024 .bf16)
    (s1 e1 s2 e2 : Elt Ideal .i32) (r : Fin 73728) (l : Fin 1024) :
    k0_pay8 v (iota .tc S73728x1 32 [0] iota_S73728x1_d0_w32) a m0 w0 s1 e1 w1 s2 e2 w2 (ix2 r l)
      = Scalar.select (mine r s2 e2) (dot v w2 r l) (Scalar.select (mine r s1 e1) (dot v w1 r l) (Scalar.select (m0 (ix2 r 0)) (dot v w0 r l) (a (ix2 r l)))) := by
  pointwise [k0_pay8]
  rfl

/-- The next three. -/
theorem pay11_at (v : FVec Ideal S73728x3072 .bf16) (a : FVec Ideal S73728x1024 .f32) (m3 : IVec S73728x1 1) (w3 w4 w5 : Vec Ideal S1x3072x1024 .bf16)
    (s4 e4 s5 e5 : Elt Ideal .i32) (r : Fin 73728) (l : Fin 1024) :
    k0_pay11 v (iota .tc S73728x1 32 [0] iota_S73728x1_d0_w32) a m3 (k0_pay10 w3) (constant S73728x1024 .f32 0x00000000#32) s4 e4 w4 s5 e5 w5 (ix2 r l)
      = Scalar.select (mine r s5 e5) (dot v w5 r l) (Scalar.select (mine r s4 e4) (dot v w4 r l) (Scalar.select (m3 (ix2 r 0)) (dot v w3 r l) (a (ix2 r l)))) := by
  pointwise [k0_pay11, k0_pay10]
  rfl

/-- The last two, and the scale. -/
theorem pay1_at (sc : FVec Ideal S73728x1 .f32) (v : FVec Ideal S73728x3072 .bf16) (a b : FVec Ideal S73728x1024 .f32) (m6 : IVec S73728x1024 1) (s7 e7 : Elt Ideal .i32)
    (w7 : Vec Ideal S1x3072x1024 .bf16) (r : Fin 73728) (l : Fin 1024) :
    k0_pay1 sc v (iota .tc S73728x1 32 [0] iota_S73728x1_d0_w32) a b m6 s7 e7 w7 (ix2 r l)
      = Scalar.select (mine r s7 e7) (dot v w7 r l) (Scalar.select (m6 (ix2 r l)) (b (ix2 r l)) (a (ix2 r l))) * sc (ix2 r 0) := by
  pointwise [k0_pay1]
  rfl

end Cert.ReferenceIdeal.Kit
-- ==== Proof.RIOut.lean ====
/- The reference's output block entry by entry: of the eight masked products the last whose mask holds, times the row's
   scale. -/
module

public import proofs.«01_k».proof.Proof.RIPay
public import proofs.«01_k».proof.Proof.Gen.ReferenceIdeal.Value
public import Idealize.ShloMosaic.Lib.VecWindow
public import Idealize.ShloMosaic.Lib.WholeRead
public import Idealize.ShloMosaic.Lib.Pipeline.ValueKit.Tiles

@[expose] public section

set_option maxRecDepth 16384

noncomputable section

namespace Cert.ReferenceIdeal.Kit

open Cert.ReferenceIdeal.Gen Cert.Quant
open Idealize.ShloMosaic Idealize.ShloMosaic.TcCoe Idealize.ShloMosaic.Tactic

/-- The tokens read whole. -/
theorem toks_at {arg : Memref sig .tc .vmem S73728x3072 .bf16} (h : arg.IsWhole) (x : Vec Ideal S73728x3072 .bf16)
    (inb : ∀ a, (![0, 0] : Fin 2 → ℕ) a + (![73728, 3072] : Fin 2 → ℕ) a ≤ S73728x3072.size a) :
    View.readAt (Elt Ideal) arg.view (Rect.unit (s := S73728x3072) ![0, 0] ![73728, 3072] inb).toLoadRect (h.unread x) = x := by
  exact (View.readAt_full (Val := Elt Ideal) arg.view (h.unread x) inb).trans (h.read_unread x)

/-- A word of a table read whole. -/
theorem word_at {arg : Memref sig .tc .smem S8 .i32} (h : arg.IsWhole) (x : Vec Ideal S8 .i32) (i : ℕ) (hi : i < 8)
    (inb : ∀ a, (![i] : Fin 1 → ℕ) a + (![1] : Fin 1 → ℕ) a ≤ S8.size a) (hs : 0 < S1.numel) :
    View.readAt (Elt Ideal) arg.view (Rect.unit (s := S8) ![i] ![1] inb).toLoadRect (h.unread x) (Shape.Idx.first hs)
      = x (ValueIdx.ix1 (⟨i, hi⟩ : Fin 8)) := by
  rw [View.readAt_eq_ld, h.read_unread]
  refine View.ld_unit_apply_of x _ _ _ _ _ ?_
  intro a
  match a with
  | ⟨0, _⟩ => rfl

/-- One expert's weights read from all. -/
theorem slab_at {arg : Memref sig .tc .vmem S8x3072x1024 .bf16} (h : arg.IsWhole) (x : Vec Ideal S8x3072x1024 .bf16) (i : ℕ) (hi : i < 8)
    (inb : ∀ a, (![i, 0, 0] : Fin 3 → ℕ) a + (![1, 3072, 1024] : Fin 3 → ℕ) a ≤ S8x3072x1024.size a) (k : Fin 3072) (l : Fin 1024) :
    View.readAt (Elt Ideal) arg.view (Rect.unit (s := S8x3072x1024) ![i, 0, 0] ![1, 3072, 1024] inb).toLoadRect (h.unread x) (ix3 0 k l)
      = x (ix3 (⟨i, hi⟩ : Fin 8) k l) := by
  rw [View.readAt_eq_ld, h.read_unread]
  refine View.ld_unit_apply_of x _ _ _ _ _ ?_
  intro a
  match a with
  | ⟨0, _⟩ => rfl
  | ⟨1, _⟩ => exact (Nat.zero_add _).symm
  | ⟨2, _⟩ => exact (Nat.zero_add _).symm

/-- The product of a row's codes with an expert's weights. -/
def prod (x0 : Vec Ideal S73728x3072 .bf16) (x1 : Vec Ideal S8x3072x1024 .bf16) (e : Fin 8) (r : Fin 73728) (l : Fin 1024) : EReal :=
  ∑ k : Fin 3072, clipv (x0 (ix2 r k) * rinv (amax fun k => x0 (ix2 r k))) * x1 (ix3 e k l)

/-- The masked products so far. -/
def chain (x0 : Vec Ideal S73728x3072 .bf16) (x1 : Vec Ideal S8x3072x1024 .bf16) (x2 x3 : Vec Ideal S8 .i32) (r : Fin 73728) (l : Fin 1024) : ℕ → EReal
  | 0 => 0
  | n + 1 => Scalar.select (mine r (x2 (ValueIdx.ix1 (Fin.ofNat 8 n))) (x3 (ValueIdx.ix1 (Fin.ofNat 8 n)))) (prod x0 x1 (Fin.ofNat 8 n) r l) (chain x0 x1 x2 x3 r l n)

theorem dot_at {arg : Memref sig .tc .vmem S8x3072x1024 .bf16} (h : arg.IsWhole) (x0 : Vec Ideal S73728x3072 .bf16) (x1 : Vec Ideal S8x3072x1024 .bf16) (i : ℕ) (hi : i < 8)
    (inb : ∀ a, (![i, 0, 0] : Fin 3 → ℕ) a + (![1, 3072, 1024] : Fin 3 → ℕ) a ≤ S8x3072x1024.size a) (r : Fin 73728) (l : Fin 1024) :
    dot (k0_pay5 x0) (View.readAt (Elt Ideal) arg.view (Rect.unit (s := S8x3072x1024) ![i, 0, 0] ![1, 3072, 1024] inb).toLoadRect (h.unread x1)) r l
      = prod x0 x1 ⟨i, hi⟩ r l := by
  unfold dot prod
  refine Finset.sum_congr rfl fun k _ => ?_
  rw [pay5_at, slab_at h x1 i hi]

/-- The output block, entry by entry. -/
theorem out_at (c : Dev nD) (arg0 : Memref sig .tc .vmem S73728x3072 .bf16) (harg0 : arg0.IsWhole) (arg1 : Memref sig .tc .vmem S8x3072x1024 .bf16) (harg1 : arg1.IsWhole) (arg2 : Memref sig .tc .smem S8 .i32) (harg2 : arg2.IsWhole) (arg3 : Memref sig .tc .smem S8 .i32) (harg3 : arg3.IsWhole) (arg4 : Memref sig .tc .vmem S73728x1024 .bf16) (harg4 : arg4.IsWhole)
    (x0 : Vec Ideal S73728x3072 .bf16) (x1 : Vec Ideal S8x3072x1024 .bf16) (x2 : Vec Ideal S8 .i32) (x3 : Vec Ideal S8 .i32) (r : Fin 73728) (l : Fin 1024) :
    out0_A_4 c arg0 harg0 arg1 harg1 arg2 harg2 arg3 harg3 arg4 harg4 x0 x1 x2 x3 (ix2 r l)
      = chain x0 x1 x2 x3 r l 8 * rscale (amax fun k => x0 (ix2 r k)) := by
  unfold out0_A_4
  rw [View.read_writes_junk_eq_canon]
  unfold kernelRun0_A
  dsimp only
  sl_unfold_words
  rw [View.canon_unit_zero (S := S73728x1024) (by funext a; match a with | ⟨0, _⟩ => rfl | ⟨1, _⟩ => rfl)]
  rw [pay1_at, pay4_at, pay13_at, pay12_at, pay11_at, pay9_at, pay8_at, pay7_at, pay6_at]
  rw [toks_at harg0 x0]
  rw [dot_at harg1 x0 x1 0 (by omega), dot_at harg1 x0 x1 1 (by omega), dot_at harg1 x0 x1 2 (by omega), dot_at harg1 x0 x1 3 (by omega),
    dot_at harg1 x0 x1 4 (by omega), dot_at harg1 x0 x1 5 (by omega), dot_at harg1 x0 x1 6 (by omega), dot_at harg1 x0 x1 7 (by omega)]
  rw [word_at harg2 x2 0 (by omega), word_at harg2 x2 1 (by omega), word_at harg2 x2 2 (by omega), word_at harg2 x2 3 (by omega),
    word_at harg2 x2 4 (by omega), word_at harg2 x2 5 (by omega), word_at harg2 x2 6 (by omega), word_at harg2 x2 7 (by omega)]
  rw [word_at harg3 x3 0 (by omega), word_at harg3 x3 1 (by omega), word_at harg3 x3 2 (by omega), word_at harg3 x3 3 (by omega),
    word_at harg3 x3 4 (by omega), word_at harg3 x3 5 (by omega), word_at harg3 x3 6 (by omega), word_at harg3 x3 7 (by omega)]
  rfl

end Cert.ReferenceIdeal.Kit
-- ==== Proof.RIHost.lean ====
/- What the reference's host leaves in the buffers its region reads: the decoded weights, and where each expert's rows
   start and end. -/
module

public import proofs.«01_k».proof.Proof.Gen.ReferenceIdeal.Value
public import proofs.«01_k».proof.Proof.Tables
public import proofs.«01_k».proof.Proof.Spec
public import Idealize.ShloMosaic.Lib.StableHlo.ReadAt
public import Idealize.ShloMosaic.Lib.Claim
public import Idealize.ShloMosaic.PureOps.Ideal

@[expose] public section

set_option maxRecDepth 16384

noncomputable section

namespace Cert.ReferenceIdeal.Kit

open Cert.ReferenceIdeal.Gen Cert.Tables Cert.Spec Cert.Sched
open Idealize.ShloMosaic Idealize.ShloMosaic.TcCoe Idealize.ShloMosaic.StableHlo

variable (m : (ℓ : Loc nD τ sig) → Buf (Elt Ideal) ℓ)

/-- The memory the region finds, group by group. -/
theorem V_split (c : Dev nD) (b : Ref sig .tc) :
    V m c b = after hostOps0_2 (after hostOps0_1 (after hostOps0 fun b => m (c, b))) (Proc.devRef .tc b) := by
  have app : ∀ (l₁ l₂ : List (HloOp τ sig (Elt Ideal))) (W : (b : DevRef τ sig) → b.ty.Contents (Elt Ideal)), after (l₁ ++ l₂) W = after l₂ (after l₁ W) := by
    intro l₁
    induction l₁ with
    | nil => intro l₂ W; rfl
    | cons op l ih => intro l₂ W; exact ih l₂ _
  unfold V
  rw [List.flatten_cons, List.flatten_cons, List.flatten_cons, List.flatten_nil, List.append_nil]
  simp only [app]

/-- Where each expert's rows end. -/
theorem V20 (c : Dev nD) : (V m c main_v20 : V8) = cums (m ((c : Thread nD τ).loc main_arg1)) := by
  entry_read
  rfl
/-- Where each expert's rows start. -/
theorem V21 (c : Dev nD) : (V m c main_v21 : V8) = startsV (m ((c : Thread nD τ).loc main_arg1)) := by
  entry_read
  rfl

/-- One half of each byte of the packed weights, sign-extended. -/
def half (s : BitVec 32) (x2 : IVec S8x1024x1536 8) : IVec S8x1024x1536 32 :=
  Host.shrsi (Host.shli (extui 32 x2 natLt_8_32) (broadcastInDim S8x1024x1536 ![] bcast_S_S8x1024x1536 (constantI S_ 32 s)))
    (broadcastInDim S8x1024x1536 ![] bcast_S_S8x1024x1536 (constantI S_ 32 28#32))
/-- The signed codes, low half first. -/
def codes (x2 : IVec S8x1024x1536 8) : IVec S8x1024x1536x2 32 :=
  concatenate S8x1024x1536x2 3 [⟨S8x1024x1536x1, broadcastInDim S8x1024x1536x1 ![0, 1, 2] bcast_S8x1024x1536_S8x1024x1536x1_0_1_2 (half 28#32 x2)⟩,
    ⟨S8x1024x1536x1, broadcastInDim S8x1024x1536x1 ![0, 1, 2] bcast_S8x1024x1536_S8x1024x1536x1_0_1_2 (half 24#32 x2)⟩] concatenates_S8x1024x1536x1_S8x1024x1536x1_S8x1024x1536x2_d3
/-- The decoded weights by output column, block and place in the block. -/
def blocks (x2 : IVec S8x1024x1536 8) (x3 : FVec Ideal S8x1024x96 .f32) : FVec Ideal S8x1024x96x32 .bf16 :=
  mulf (sitofp .bf16 (shapeCast S8x1024x96x32 (codes x2) shapeCasts_S8x1024x1536x2_S8x1024x96x32))
    (broadcastInDim S8x1024x96x32 ![0, 1, 2, 3] bcast_S8x1024x96x1_S8x1024x96x32_0_1_2_3
      (broadcastInDim S8x1024x96x1 ![0, 1, 2] bcast_S8x1024x96_S8x1024x96x1_0_1_2 (truncf .bf16 x3 bitsLt_bf16_f32)))
/-- The decoded weights, contracted axis before the output column. -/
def weights (x2 : IVec S8x1024x1536 8) (x3 : FVec Ideal S8x1024x96 .f32) : FVec Ideal S8x3072x1024 .bf16 :=
  transpose S8x3072x1024 [0, 2, 1] (shapeCast S8x1024x3072 (blocks x2 x3) shapeCasts_S8x1024x96x32_S8x1024x3072) transposes_S8x1024x3072_S8x3072x1024_0_2_1

section Groups
variable (W : (b : DevRef τ sig) → b.ty.Contents (Elt Ideal))
theorem u2_v19 : after hostOps0_2 W (Proc.devRef .tc main_v19) = W (Proc.devRef .tc main_v19) := by
  after_reads_simp
theorem u1_v19 : after hostOps0_1 W (Proc.devRef .tc main_v19) = W (Proc.devRef .tc main_v19) := by
  after_reads_simp
theorem g0_v9 : upto hostOps0 W 15 (Proc.devRef .tc main_v9) = broadcastInDim S8x1024x1536x1 ![0, 1, 2] bcast_S8x1024x1536_S8x1024x1536x1_0_1_2 (half 28#32 (W (Proc.devRef .tc main_arg2))) := by
  unfold half
  after_reads_simp
theorem g0_v10 : upto hostOps0 W 15 (Proc.devRef .tc main_v10) = broadcastInDim S8x1024x1536x1 ![0, 1, 2] bcast_S8x1024x1536_S8x1024x1536x1_0_1_2 (half 24#32 (W (Proc.devRef .tc main_arg2))) := by
  unfold half
  after_reads_simp
theorem g0_v19 : after hostOps0 W (Proc.devRef .tc main_v19) = weights (W (Proc.devRef .tc main_arg2)) (W (Proc.devRef .tc main_arg3)) := by
  unfold weights blocks codes
  after_reads_simp
  rw [g0_v9, g0_v10]
  rfl
end Groups

/-- The decoded weights. -/
theorem V19 (c : Dev nD) : V m c main_v19 = weights (m ((c : Thread nD τ).loc main_arg2)) (m ((c : Thread nD τ).loc main_arg3)) := by
  rw [V_split, u2_v19, u1_v19, g0_v19]

/-- The decoded weights entry by entry. -/
theorem weights_at (x2 : IVec S8x1024x1536 8) (x3 : FVec Ideal S8x1024x96 .f32) (e : Fin 8) (k : Fin 3072) (l : Fin 1024) :
    weights x2 x3 (ix3 e k l) = wt x2 x3 e.val k l := by
  pointwise [weights, blocks, codes, half]
  unfold wt nib
  have e1 : (⟨k.val / 32 * 16 + k.val % 32 / 2, by omega⟩ : Fin 1536) = ⟨k.val / 2, by omega⟩ := Fin.ext (by show k.val / 32 * 16 + k.val % 32 / 2 = k.val / 2; omega)
  have e2 : k.val % 32 % 2 = k.val % 2 := by omega
  have e3 : Fin.ofNat 8 e.val = e := Fin.ext (Nat.mod_eq_of_lt e.isLt)
  rw [e3]
  refine congrArg (· * x3 (ix3 e l ⟨k.val / 32, by omega⟩)) (congrArg (FloatOps.sitofp (F := Ideal) .bf16) ?_)
  by_cases h : k.val % 2 < 1
  · rw [dif_pos (by rw [e2]; exact h), if_pos h]
    exact congrArg (fun q : Fin 1536 => IntOp.shrsi .vector (IntOp.shli .vector (BitVec.setWidth 32 (x2 (ix3 e l q))) 28#32) 28#32) e1
  · rw [dif_neg (by rw [e2]; exact h), if_neg h]
    exact congrArg (fun q : Fin 1536 => IntOp.shrsi .vector (IntOp.shli .vector (BitVec.setWidth 32 (x2 (ix3 e l q))) 24#32) 28#32) e1

end Cert.ReferenceIdeal.Kit
-- ==== Proof.RIValue.lean ====
/- The reference's output array: every row is its owner's product. -/
module

public import proofs.«01_k».proof.Proof.RIOut
public import proofs.«01_k».proof.Proof.RIHost
public import Idealize.ShloMosaic.Lib.Pipeline.ValueKit.Geometry

@[expose] public section

set_option maxRecDepth 16384

noncomputable section

namespace Cert.ReferenceIdeal.Kit

open Cert.ReferenceIdeal.Gen Cert.Sched Cert.Spec Cert.Quant Cert.Tables
open Idealize.ShloMosaic Idealize.ShloMosaic.TcCoe Idealize.SL.Sem
open Idealize.ShloMosaic.Pipeline (Dat Cfg Window)

/-- The mask of a row on words that hold naturals. -/
theorem mine_eq (r : Fin 73728) {a b : ℕ} (ha : a ≤ 73728) (hb : b ≤ 73728) :
    mine r (BitVec.ofNat 32 a) (BitVec.ofNat 32 b) = BitVec.ofBool (decide (a ≤ r.val ∧ r.val < b)) := by
  have hr := r.isLt
  unfold mine
  rw [WordCmp.cmpi_sge_ofNat (by omega) (by omega), WordCmp.cmpi_slt_ofNat (by omega) (by omega)]
  by_cases h1 : a ≤ r.val <;> by_cases h2 : r.val < b <;> simp [h1, h2] <;> decide

/-- Of the masked products the owner's remains. -/
theorem chain_eq {G : ℕ → ℕ} (hG : P G 8 = 73728) (x0 : Vec Ideal S73728x3072 .bf16) (x1 : Vec Ideal S8x3072x1024 .bf16) (x2 x3 : Vec Ideal S8 .i32)
    (h2 : ∀ i : Fin 8, x2 (ValueIdx.ix1 i) = BitVec.ofNat 32 (P G i.val)) (h3 : ∀ i : Fin 8, x3 (ValueIdx.ix1 i) = BitVec.ofNat 32 (P G (i.val + 1)))
    (r : Fin 73728) (l : Fin 1024) {e : ℕ} (he : e < 8) (h4 : P G e ≤ r.val) (h5 : r.val < P G (e + 1)) (n : ℕ) (hn : n ≤ 8) :
    chain x0 x1 x2 x3 r l n = if e < n then prod x0 x1 ⟨e, he⟩ r l else 0 := by
  induction n with
  | zero => rfl
  | succ n ih =>
    have hm : (Fin.ofNat 8 n).val = n := Nat.mod_eq_of_lt (by omega)
    unfold chain
    rw [h2, h3, hm, mine_eq r (P_le hG (by omega)) (P_le hG (by omega)), ih (by omega)]
    by_cases h : n = e
    · subst h
      rw [decide_eq_true ⟨h4, h5⟩, if_pos (Nat.lt_succ_self n)]
      exact congrArg (fun q => prod x0 x1 q r l) (Fin.ext hm)
    · have hno : ¬ (P G n ≤ r.val ∧ r.val < P G (n + 1)) := fun hh => h (expert_unique hh.1 hh.2 h4 h5)
      rw [decide_eq_false hno]
      by_cases hl : e < n
      · rw [if_pos hl, if_pos (by omega)]; rfl
      · rw [if_neg hl, if_neg (by omega)]; rfl

variable {m : (ℓ : Loc nD τ sig) → Buf (Elt Ideal) ℓ} {G : ℕ → ℕ}

/-- The reference's result as a function of the arguments launched. -/
abbrev tgt (m : (ℓ : Loc nD τ sig) → Buf (Elt Ideal) ℓ) (G : ℕ → ℕ) : Result :=
  target (m (((0 : Dev nD) : Thread nD τ).loc main_arg0)) (m (((0 : Dev nD) : Thread nD τ).loc main_arg2)) (m (((0 : Dev nD) : Thread nD τ).loc main_arg3)) G

/-- The one grid point. -/
abbrev t₀ : Fin cfg0.N := ⟨0, by decide⟩

/-- The tokens as the reference reads them. -/
theorem blk0 : (iblk m 0 0 t₀ : Vec Ideal S73728x3072 .bf16) = m (((0 : Dev nD) : Thread nD τ).loc main_arg0) := by
  refine Eq.trans (funext fun x => ?_) (V_main_arg0 m 0)
  refine congrArg (V m 0 main_arg0) (funext fun a => Fin.ext ?_)
  match a with
  | ⟨0, _⟩ => show 0 * 73728 + 1 * (x 0).val = (x 0).val; omega
  | ⟨1, _⟩ => show 0 * 3072 + 1 * (x 1).val = (x 1).val; omega
/-- The weights as it reads them. -/
theorem blk1 : (iblk m 0 1 t₀ : Vec Ideal S8x3072x1024 .bf16) = V m 0 main_v19 := by
  refine funext fun x => ?_
  refine congrArg (V m 0 main_v19) (funext fun a => Fin.ext ?_)
  match a with
  | ⟨0, _⟩ => show 0 * 8 + 1 * (x 0).val = (x 0).val; omega
  | ⟨1, _⟩ => show 0 * 3072 + 1 * (x 1).val = (x 1).val; omega
  | ⟨2, _⟩ => show 0 * 1024 + 1 * (x 2).val = (x 2).val; omega
/-- The starts as it reads them. -/
theorem blk2 : (iblk m 0 2 t₀ : Vec Ideal S8 .i32) = V m 0 main_v21 := by
  refine funext fun x => ?_
  refine congrArg (V m 0 main_v21) (funext fun a => Fin.ext ?_)
  match a with
  | ⟨0, _⟩ => show 0 * 8 + 1 * (x 0).val = (x 0).val; omega
/-- The ends as it reads them. -/
theorem blk3 : (iblk m 0 3 t₀ : Vec Ideal S8 .i32) = V m 0 main_v20 := by
  refine funext fun x => ?_
  refine congrArg (V m 0 main_v20) (funext fun a => Fin.ext ?_)
  match a with
  | ⟨0, _⟩ => show 0 * 8 + 1 * (x 0).val = (x 0).val; omega

variable (hg : ∀ i : Fin 8, (m (((0 : Dev nD) : Thread nD τ).loc main_arg1) : V8) (ValueIdx.ix1 i) = BitVec.ofNat 32 (G i.val)) (hG : P G 8 = 73728)
  (hr : ∀ r : Fin 73728, InRange (fun k : Fin 3072 => (m (((0 : Dev nD) : Thread nD τ).loc main_arg0) : Tokens) (ix2 r k)))
include hg hG hr

/-- The output block is the target. -/
theorem outs_eq (r : Fin 73728) (l : Fin 1024) : (outsAt0 m 0 t₀ : Vec Ideal S73728x1024 .bf16) (ix2 r l) = tgt m G (ix2 r l) := by
  unfold outsAt0
  rw [out_at, blk0, blk1, blk2, blk3, V19]
  obtain ⟨e, he, h4, h5⟩ := exists_pos_below G (n := 8) (i := r.val) (by have := r.isLt; omega)
  rw [chain_eq hG _ _ _ _ (fun i => (congrFun (V21 m 0) _).trans (startsV_ap hg hG i)) (fun i => (congrFun (V20 m 0) _).trans (cums_ap _ _ hg i)) r l he h4 h5 8 le_rfl,
    if_pos he]
  show _ = krow (fun k : Fin 3072 => (m (((0 : Dev nD) : Thread nD τ).loc main_arg0) : Tokens) (ix2 r k)) (fun k => wt _ _ (own G r.val) k l)
  rw [krow_eq_rrow _ _ (hr r), own_eq he h4 h5]
  unfold prod
  simp only [weights_at]
  rfl

/-- The output array. -/
theorem arr_eq : (dats m 0 0).arrAt 4 cfg0.N = tgt m G := by
  refine Dat.arrAt_eq_of_after_last (dats m 0 0) 4 t₀ (by decide +kernel) (show Buf (Elt Ideal) ((cfg0.win 4).arr.view.loc ((0 : Dev nD).tc : Thread nD τ)) from tgt m G) ?_
  intro j
  have key := outs_eq hg hG hr (j (0 : Fin 2)) (j (1 : Fin 2))
  rw [after0_4]
  generalize outsAt0 m 0 t₀ = o at key ⊢
  generalize tgt m G = T at key ⊢
  have e1 : (fun a => ⟨(j a).val, (j a).isLt⟩ : S73728x1024.Idx) = ix2 (j (0 : Fin 2)) (j (1 : Fin 2)) := by
    refine funext fun a => ?_
    match a with
    | ⟨0, _⟩ => rfl
    | ⟨1, _⟩ => rfl
  have e2 : ((cfg0.win 4).arr.view.emb j : S73728x1024.Idx) = ix2 (j (0 : Fin 2)) (j (1 : Fin 2)) := by
    refine funext fun a => ?_
    match a with
    | ⟨0, _⟩ => rfl
    | ⟨1, _⟩ => rfl
  exact Eq.trans (congrArg o e1) (key.trans (congrArg T e2.symm))

/-- The reference's run: its result is the target of its arguments, which end unchanged. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v22) = tgt m G
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (Cert.ReferenceIdeal.Value.run_blocks m ρ)
  obtain rfl : c = 0 := Subsingleton.elim _ _
  exact ⟨(h 0).1.trans (arr_eq hg hG hr), (h 0).2⟩

end Cert.ReferenceIdeal.Kit
-- ==== Proof.Alg.lean ====
/- The kernel and the reference compute one result on exact floats, given group sizes that cover the tokens and tokens in
   the range of their format. -/
module

public import proofs.«01_k».proof.Defs
public import proofs.«01_k».proof.Proof.KIArr
public import proofs.«01_k».proof.Proof.RIValue
public import proofs.«01_k».proof.Proof.GroupsBf16
public import proofs.«01_k».proof.Proof.Gen.Pre_groups_cover_bf16_tokens

@[expose] public section

noncomputable section

namespace Cert.Proof

open Idealize.ShloMosaic Idealize.SL.Sem

/-- Rows in the range of the tokens' format, from the precondition's test of every token. -/
theorem inRange_of {x0 : FVec Ideal Cert.Pre_groups_cover_bf16_tokens.S73728x3072 .bf16}
    (h : ∀ i, ori (cmpf .ole (Host.absf (extf .f32 x0 (by decide : FTy.bits .bf16 < FTy.bits .f32))) (constant Cert.Pre_groups_cover_bf16_tokens.S73728x3072 .f32 0x7F7F0000#32))
        (cmpf .oeq (Host.absf (extf .f32 x0 (by decide : FTy.bits .bf16 < FTy.bits .f32))) (constant Cert.Pre_groups_cover_bf16_tokens.S73728x3072 .f32 0x7F800000#32)) i = 1#1)
    (r : Fin 73728) : Cert.Quant.InRange (fun k : Fin 3072 => x0 (ix2 r k)) := by
  intro k
  have h1 : IntOp.ori (BitVec.ofBool (decide (max (x0 (ix2 r k)) (-(x0 (ix2 r k))) ≤ Ideal.ofBits .f32 2139029504#32)))
      (BitVec.ofBool (decide (max (x0 (ix2 r k)) (-(x0 (ix2 r k))) = Ideal.ofBits .f32 2139095040#32))) = 1#1 := h (ix2 r k)
  by_cases h2 : max (x0 (ix2 r k)) (-(x0 (ix2 r k))) ≤ Ideal.ofBits .f32 2139029504#32
  · exact Or.inl h2
  · by_cases h3 : max (x0 (ix2 r k)) (-(x0 (ix2 r k))) = Ideal.ofBits .f32 2139095040#32
    · exact Or.inr (h3.trans Cert.Quant.top_eq)
    · rw [decide_eq_false h2, decide_eq_false h3] at h1
      exact absurd h1 (by decide)

/-- The kernel's result equals the reference's. -/
theorem algebraic : algebraic_KernelIdeal_ReferenceIdeal_pre_groups_cover_bf16_tokens (hKernelIdeal := Cert.KernelIdeal.Gen.facts)
    (hReferenceIdeal := Cert.ReferenceIdeal.Gen.facts) (hPre_groups_cover_bf16_tokens := Cert.Pre_groups_cover_bf16_tokens.Gen.facts) := by
  intro m g m' g' h hm
  obtain ⟨⟨G, hg, hG⟩, hx⟩ := Cert.Tables.groups_of_cover_bf16 _ _ _ _ (h 0)
  obtain ⟨e0, e1, e2, e3⟩ := hm 0
  have hO := Cert.KernelIdeal.Kit.ok_of hg hG
  have ht : Cert.ReferenceIdeal.Kit.tgt m' G = Cert.KernelIdeal.Kit.tgt m G := by
    unfold Cert.ReferenceIdeal.Kit.tgt Cert.KernelIdeal.Kit.tgt
    rw [e0, e2, e3]
  have hv := Cert.ReferenceIdeal.Kit.value (m := m') (G := G) (fun i => (congrFun e1 _).trans (hg i)) hG
    (fun r => by rw [e0]; exact inRange_of hx r) g'
  rw [ht] at hv
  exact ⟨fun _ => Cert.KernelIdeal.Kit.tgt m G, Cert.KernelIdeal.Kit.value hg hG hO g, hv⟩

end Cert.Proof

end
-- ==== Proof.lean ====
module

public import proofs.«01_k».proof.Defs
public import proofs.«01_k».proof.Proof.Frames
public import proofs.«01_k».proof.Proof.Gen.ReferenceIdeal.Value
public import proofs.«01_k».proof.Proof.Gen.Pre_groups_cover_bf16_tokens

public import proofs.«01_k».proof.Proof.Alg

@[expose] public section

noncomputable section

namespace Cert.Proof

open Idealize.ShloMosaic Idealize.SL.Sem

/-- The certificate's claims, together. -/
theorem claim : Cert.Claim :=
  ⟨Cert.Kernel.Gen.facts, Cert.KernelIdeal.Gen.facts, Cert.ReferenceIdeal.Gen.facts, Cert.Pre_groups_cover.Gen.facts,
    Cert.Pre_groups_cover_bf16_tokens.Gen.facts, frame_kernel, frame_kernelIdeal, frame_kernelIdeal_bf16, frame_referenceIdeal,
    frame_referenceIdeal_bf16, trivial, algebraic⟩

end Cert.Proof

end
